-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x1000 : Shape := ⟨2, ![16384, 1000]⟩
abbrev S16384x200 : Shape := ⟨2, ![16384, 200]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : FVec F S16384x1000 .f32) (main_arg1 : IVec S16384x200 32) (main_arg2 : FVec F S16384x200 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg1 main_v0
  let main_c_0 : IVec S_ 32 := constantI S_ 32 1000#32
  let main_v2 : IVec S16384x200 32 := broadcastInDim S16384x200 ![] bcast_S_S16384x200 main_c_0
  let main_v3 : IVec S16384x200 1 := cmpi .slt main_arg1 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x1000 : Shape := ⟨2, ![16384, 1000]⟩
abbrev S16384x200 : Shape := ⟨2, ![16384, 200]⟩
abbrev S16384 : Shape := ⟨1, ![16384]⟩
abbrev S16384x1 : Shape := ⟨2, ![16384, 1]⟩
abbrev S_ : Shape := ⟨0, ![]⟩
abbrev S16384x200x1 : Shape := ⟨3, ![16384, 200, 1]⟩
abbrev S16384x200x2 : Shape := ⟨3, ![16384, 200, 2]⟩
abbrev S16384000 : Shape := ⟨1, ![16384000]⟩
abbrev S3276800 : Shape := ⟨1, ![3276800]⟩
abbrev S16000 : Shape := ⟨1, ![16000]⟩
abbrev S3200 : Shape := ⟨1, ![3200]⟩
abbrev S16 : Shape := ⟨1, ![16]⟩

abbrev nBuf : Table → Nat
  | .hbm => 41
  | .local .scVector .vmem => 4
  | _ => 0

abbrev bufTy : (tb : Table) → Fin (nBuf tb) → BufTy
  | .hbm, ⟨0, _⟩ => ⟨S16384x1000, .f32⟩
  | .hbm, ⟨1, _⟩ => ⟨S16384x200, .i32⟩
  | .hbm, ⟨2, _⟩ => ⟨S16384x200, .f32⟩
  | .hbm, ⟨3, _⟩ => ⟨S16384, .i32⟩
  | .hbm, ⟨4, _⟩ => ⟨S16384x1, .i32⟩
  | .hbm, ⟨5, _⟩ => ⟨S_, .f32⟩
  | .hbm, ⟨6, _⟩ => ⟨S16384x200, .f32⟩
  | .hbm, ⟨7, _⟩ => ⟨S16384x200, .f32⟩
  | .hbm, ⟨8, _⟩ => ⟨S16384x200, .f32⟩
  | .hbm, ⟨9, _⟩ => ⟨S16384x200, .f32⟩
  | .hbm, ⟨10, _⟩ => ⟨S_, .f32⟩
  | .hbm, ⟨11, _⟩ => ⟨S16384x1000, .f32⟩
  | .hbm, ⟨12, _⟩ => ⟨S16384x1000, .f32⟩
  | .hbm, ⟨13, _⟩ => ⟨S_, .f32⟩
  | .hbm, ⟨14, _⟩ => ⟨S16384x1000, .f32⟩
  | .hbm, ⟨15, _⟩ => ⟨S16384x1000, .f32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S_, .i32⟩
  | .hbm, ⟨20, _⟩ => ⟨S16384x1, .i32⟩
  | .hbm, ⟨21, _⟩ => ⟨S16384x1, .i32⟩
  | .hbm, ⟨22, _⟩ => ⟨S16384x1, .i32⟩
  | .hbm, ⟨23, _⟩ => ⟨S_, .i32⟩
  | .hbm, ⟨24, _⟩ => ⟨S16384x200, .i32⟩
  | .hbm, ⟨25, _⟩ => ⟨S16384x200, .i1⟩
  | .hbm, ⟨26, _⟩ => ⟨S_, .i32⟩
  | .hbm, ⟨27, _⟩ => ⟨S16384x200, .i32⟩
  | .hbm, ⟨28, _⟩ => ⟨S16384x200, .i32⟩
  | .hbm, ⟨29, _⟩ => ⟨S16384x200, .i32⟩
  | .hbm, ⟨30, _⟩ => ⟨S16384x200, .i32⟩
  | .hbm, ⟨31, _⟩ => ⟨S16384x200x1, .i32⟩
  | .hbm, ⟨32, _⟩ => ⟨S16384x200x1, .i32⟩
  | .hbm, ⟨33, _⟩ => ⟨S16384x200x2, .i32⟩
  | .hbm, ⟨34, _⟩ => ⟨S16384x1000, .f32⟩
  | .hbm, ⟨35, _⟩ => ⟨S16384000, .f32⟩
  | .hbm, ⟨36, _⟩ => ⟨S3276800, .i32⟩
  | .hbm, ⟨37, _⟩ => ⟨S3276800, .f32⟩
  | .hbm, ⟨38, _⟩ => ⟨S16384000, .f32⟩
  | .hbm, ⟨39, _⟩ => ⟨S16384000, .f32⟩
  | .hbm, ⟨40, _⟩ => ⟨S16384x1000, .f32⟩
  | .local .scVector .vmem, ⟨0, _⟩ => ⟨S16000, .f32⟩
  | .local .scVector .vmem, ⟨1, _⟩ => ⟨S16000, .f32⟩
  | .local .scVector .vmem, ⟨2, _⟩ => ⟨S3200, .i32⟩
  | .local .scVector .vmem, ⟨3, _⟩ => ⟨S3200, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v25_scv : Ref sig .scVector := ⟨.hbm, 35, rfl⟩
abbrev main_v26_scv : Ref sig .scVector := ⟨.hbm, 36, rfl⟩
abbrev main_v27_scv : Ref sig .scVector := ⟨.hbm, 37, rfl⟩
abbrev main_v28_scv : Ref sig .scVector := ⟨.hbm, 38, rfl⟩
abbrev main_v29_scv : Ref sig .scVector := ⟨.hbm, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg11 : BitVec 32 := Scf.iv c0_i32_0 c1_i32 k0_t1
  let c16_i32 : BitVec 32 := 16#32
  let v5 : BitVec 32 := Scalar.muli arg11 c16_i32
  let v6 : BitVec 32 := Scalar.addi v2 v5
  let c1000_i32 : BitVec 32 := 1000#32
  let v7 : BitVec 32 := Scalar.muli v6 c1000_i32
  ![v7.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg11 : BitVec 32 := Scf.iv c0_i32_0 c1_i32 k0_t1
  let c16_i32 : BitVec 32 := 16#32
  let v5 : BitVec 32 := Scalar.muli arg11 c16_i32
  let v6 : BitVec 32 := Scalar.addi v2 v5
  let c200_i32 : BitVec 32 := 200#32
  let v9 : BitVec 32 := Scalar.muli v6 c200_i32
  ![v9.toNat]
@[reducible] def k0_t2_loop : Scf.Loop 32 :=
  let c0_i32_5 : BitVec 32 := 0#32
  let c16_i32_6 : BitVec 32 := 16#32
  let v11 : BitVec 32 := Scalar.addi c0_i32_5 c16_i32_6
  let c1_i32_7 : BitVec 32 := 1#32
  ⟨c0_i32_5, v11, c1_i32_7⟩
def k0_off3 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c0_i32_12 : BitVec 32 := 0#32
  let v15 : BitVec 32 := Scalar.addi v13 c0_i32_12
  let v16 : Index := Scalar.indexCast v15
  ![v16.toNat]

def k0_chk1 (v22 : IVec S16 32) : Prop :=
  (∀ a x, ((![v22] : Fin 1 → IVec S16 32) a x).toNat < S16000.size a) ∧
  (∀ a x, ((![v22] : Fin 1 → IVec S16 32) a x).toNat < S16000.size a)
theorem k0_idx1_inb : ∀ (v22 : IVec S16 32) (k0_hw1 : k0_chk1 v22), ∀ a x, ((![v22] : Fin 1 → IVec S16 32) a x).toNat < S16000.size a := fun v22 k0_hw1 => k0_hw1.1
theorem k0_idx2_inb : ∀ (v22 : IVec S16 32) (k0_hw1 : k0_chk1 v22), ∀ a x, ((![v22] : Fin 1 → IVec S16 32) a x).toNat < S16000.size a := fun v22 k0_hw1 => k0_hw1.2
def k0_off4 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c16_i32_15 : BitVec 32 := 16#32
  let v28 : BitVec 32 := Scalar.addi v13 c16_i32_15
  let v29 : Index := Scalar.indexCast v28
  ![v29.toNat]

def k0_chk2 (v35 : IVec S16 32) : Prop :=
  (∀ a x, ((![v35] : Fin 1 → IVec S16 32) a x).toNat < S16000.size a) ∧
  (∀ a x, ((![v35] : Fin 1 → IVec S16 32) a x).toNat < S16000.size a)
theorem k0_idx3_inb : ∀ (v35 : IVec S16 32) (k0_hw2 : k0_chk2 v35), ∀ a x, ((![v35] : Fin 1 → IVec S16 32) a x).toNat < S16000.size a := fun v35 k0_hw2 => k0_hw2.1
theorem k0_idx4_inb : ∀ (v35 : IVec S16 32) (k0_hw2 : k0_chk2 v35), ∀ a x, ((![v35] : Fin 1 → IVec S16 32) a x).toNat < S16000.size a := fun v35 k0_hw2 => k0_hw2.2
def k0_off5 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c32_i32_18 : BitVec 32 := 32#32
  let v41 : BitVec 32 := Scalar.addi v13 c32_i32_18
  let v42 : Index := Scalar.indexCast v41
  ![v42.toNat]

def k0_chk3 (v48 : IVec S16 32) : Prop :=
  (∀ a x, ((![v48] : Fin 1 → IVec S16 32) a x).toNat < S16000.size a) ∧
  (∀ a x, ((![v48] : Fin 1 → IVec S16 32) a x).toNat < S16000.size a)
theorem k0_idx5_inb : ∀ (v48 : IVec S16 32) (k0_hw3 : k0_chk3 v48), ∀ a x, ((![v48] : Fin 1 → IVec S16 32) a x).toNat < S16000.size a := fun v48 k0_hw3 => k0_hw3.1
theorem k0_idx6_inb : ∀ (v48 : IVec S16 32) (k0_hw3 : k0_chk3 v48), ∀ a x, ((![v48] : Fin 1 → IVec S16 32) a x).toNat < S16000.size a := fun v48 k0_hw3 => k0_hw3.2
def k0_off6 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c48_i32 : BitVec 32 := 48#32
  let v54 : BitVec 32 := Scalar.addi v13 c48_i32
  let v55 : Index := Scalar.indexCast v54
  ![v55.toNat]

def k0_chk4 (v61 : IVec S16 32) : Prop :=
  (∀ a x, ((![v61] : Fin 1 → IVec S16 32) a x).toNat < S16000.size a) ∧
  (∀ a x, ((![v61] : Fin 1 → IVec S16 32) a x).toNat < S16000.size a)
theorem k0_idx7_inb : ∀ (v61 : IVec S16 32) (k0_hw4 : k0_chk4 v61), ∀ a x, ((![v61] : Fin 1 → IVec S16 32) a x).toNat < S16000.size a := fun v61 k0_hw4 => k0_hw4.1
theorem k0_idx8_inb : ∀ (v61 : IVec S16 32) (k0_hw4 : k0_chk4 v61), ∀ a x, ((![v61] : Fin 1 → IVec S16 32) a x).toNat < S16000.size a := fun v61 k0_hw4 => k0_hw4.2
def k0_off7 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c64_i32 : BitVec 32 := 64#32
  let v67 : BitVec 32 := Scalar.addi v13 c64_i32
  let v68 : Index := Scalar.indexCast v67
  ![v68.toNat]

def k0_chk5 (v74 : IVec S16 32) : Prop :=
  (∀ a x, ((![v74] : Fin 1 → IVec S16 32) a x).toNat < S16000.size a) ∧
  (∀ a x, ((![v74] : Fin 1 → IVec S16 32) a x).toNat < S16000.size a)
theorem k0_idx9_inb : ∀ (v74 : IVec S16 32) (k0_hw5 : k0_chk5 v74), ∀ a x, ((![v74] : Fin 1 → IVec S16 32) a x).toNat < S16000.size a := fun v74 k0_hw5 => k0_hw5.1
theorem k0_idx10_inb : ∀ (v74 : IVec S16 32) (k0_hw5 : k0_chk5 v74), ∀ a x, ((![v74] : Fin 1 → IVec S16 32) a x).toNat < S16000.size a := fun v74 k0_hw5 => k0_hw5.2
def k0_off8 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c80_i32 : BitVec 32 := 80#32
  let v80 : BitVec 32 := Scalar.addi v13 c80_i32
  let v81 : Index := Scalar.indexCast v80
  ![v81.toNat]

def k0_chk6 (v87 : IVec S16 32) : Prop :=
  (∀ a x, ((![v87] : Fin 1 → IVec S16 32) a x).toNat < S16000.size a) ∧
  (∀ a x, ((![v87] : Fin 1 → IVec S16 32) a x).toNat < S16000.size a)
theorem k0_idx11_inb : ∀ (v87 : IVec S16 32) (k0_hw6 : k0_chk6 v87), ∀ a x, ((![v87] : Fin 1 → IVec S16 32) a x).toNat < S16000.size a := fun v87 k0_hw6 => k0_hw6.1
theorem k0_idx12_inb : ∀ (v87 : IVec S16 32) (k0_hw6 : k0_chk6 v87), ∀ a x, ((![v87] : Fin 1 → IVec S16 32) a x).toNat < S16000.size a := fun v87 k0_hw6 => k0_hw6.2
def k0_off9 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c96_i32 : BitVec 32 := 96#32
  let v93 : BitVec 32 := Scalar.addi v13 c96_i32
  let v94 : Index := Scalar.indexCast v93
  ![v94.toNat]

def k0_chk7 (v100 : IVec S16 32) : Prop :=
  (∀ a x, ((![v100] : Fin 1 → IVec S16 32) a x).toNat < S16000.size a) ∧
  (∀ a x, ((![v100] : Fin 1 → IVec S16 32) a x).toNat < S16000.size a)
theorem k0_idx13_inb : ∀ (v100 : IVec S16 32) (k0_hw7 : k0_chk7 v100), ∀ a x, ((![v100] : Fin 1 → IVec S16 32) a x).toNat < S16000.size a := fun v100 k0_hw7 => k0_hw7.1
theorem k0_idx14_inb : ∀ (v100 : IVec S16 32) (k0_hw7 : k0_chk7 v100), ∀ a x, ((![v100] : Fin 1 → IVec S16 32) a x).toNat < S16000.size a := fun v100 k0_hw7 => k0_hw7.2
def k0_off10 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c112_i32 : BitVec 32 := 112#32
  let v106 : BitVec 32 := Scalar.addi v13 c112_i32
  let v107 : Index := Scalar.indexCast v106
  ![v107.toNat]

def k0_chk8 (v113 : IVec S16 32) : Prop :=
  (∀ a x, ((![v113] : Fin 1 → IVec S16 32) a x).toNat < S16000.size a) ∧
  (∀ a x, ((![v113] : Fin 1 → IVec S16 32) a x).toNat < S16000.size a)
theorem k0_idx15_inb : ∀ (v113 : IVec S16 32) (k0_hw8 : k0_chk8 v113), ∀ a x, ((![v113] : Fin 1 → IVec S16 32) a x).toNat < S16000.size a := fun v113 k0_hw8 => k0_hw8.1
theorem k0_idx16_inb : ∀ (v113 : IVec S16 32) (k0_hw8 : k0_chk8 v113), ∀ a x, ((![v113] : Fin 1 → IVec S16 32) a x).toNat < S16000.size a := fun v113 k0_hw8 => k0_hw8.2
def k0_off11 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c128_i32 : BitVec 32 := 128#32
  let v119 : BitVec 32 := Scalar.addi v13 c128_i32
  let v120 : Index := Scalar.indexCast v119
  ![v120.toNat]

def k0_chk9 (v126 : IVec S16 32) : Prop :=
  (∀ a x, ((![v126] : Fin 1 → IVec S16 32) a x).toNat < S16000.size a) ∧
  (∀ a x, ((![v126] : Fin 1 → IVec S16 32) a x).toNat < S16000.size a)
theorem k0_idx17_inb : ∀ (v126 : IVec S16 32) (k0_hw9 : k0_chk9 v126), ∀ a x, ((![v126] : Fin 1 → IVec S16 32) a x).toNat < S16000.size a := fun v126 k0_hw9 => k0_hw9.1
theorem k0_idx18_inb : ∀ (v126 : IVec S16 32) (k0_hw9 : k0_chk9 v126), ∀ a x, ((![v126] : Fin 1 → IVec S16 32) a x).toNat < S16000.size a := fun v126 k0_hw9 => k0_hw9.2
def k0_off12 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c144_i32 : BitVec 32 := 144#32
  let v132 : BitVec 32 := Scalar.addi v13 c144_i32
  let v133 : Index := Scalar.indexCast v132
  ![v133.toNat]

def k0_chk10 (v139 : IVec S16 32) : Prop :=
  (∀ a x, ((![v139] : Fin 1 → IVec S16 32) a x).toNat < S16000.size a) ∧
  (∀ a x, ((![v139] : Fin 1 → IVec S16 32) a x).toNat < S16000.size a)
theorem k0_idx19_inb : ∀ (v139 : IVec S16 32) (k0_hw10 : k0_chk10 v139), ∀ a x, ((![v139] : Fin 1 → IVec S16 32) a x).toNat < S16000.size a := fun v139 k0_hw10 => k0_hw10.1
theorem k0_idx20_inb : ∀ (v139 : IVec S16 32) (k0_hw10 : k0_chk10 v139), ∀ a x, ((![v139] : Fin 1 → IVec S16 32) a x).toNat < S16000.size a := fun v139 k0_hw10 => k0_hw10.2
def k0_off13 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c160_i32 : BitVec 32 := 160#32
  let v145 : BitVec 32 := Scalar.addi v13 c160_i32
  let v146 : Index := Scalar.indexCast v145
  ![v146.toNat]

def k0_chk11 (v152 : IVec S16 32) : Prop :=
  (∀ a x, ((![v152] : Fin 1 → IVec S16 32) a x).toNat < S16000.size a) ∧
  (∀ a x, ((![v152] : Fin 1 → IVec S16 32) a x).toNat < S16000.size a)
theorem k0_idx21_inb : ∀ (v152 : IVec S16 32) (k0_hw11 : k0_chk11 v152), ∀ a x, ((![v152] : Fin 1 → IVec S16 32) a x).toNat < S16000.size a := fun v152 k0_hw11 => k0_hw11.1
theorem k0_idx22_inb : ∀ (v152 : IVec S16 32) (k0_hw11 : k0_chk11 v152), ∀ a x, ((![v152] : Fin 1 → IVec S16 32) a x).toNat < S16000.size a := fun v152 k0_hw11 => k0_hw11.2
def k0_off14 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c176_i32 : BitVec 32 := 176#32
  let v158 : BitVec 32 := Scalar.addi v13 c176_i32
  let v159 : Index := Scalar.indexCast v158
  ![v159.toNat]

def k0_chk12 (v165 : IVec S16 32) : Prop :=
  (∀ a x, ((![v165] : Fin 1 → IVec S16 32) a x).toNat < S16000.size a) ∧
  (∀ a x, ((![v165] : Fin 1 → IVec S16 32) a x).toNat < S16000.size a)
theorem k0_idx23_inb : ∀ (v165 : IVec S16 32) (k0_hw12 : k0_chk12 v165), ∀ a x, ((![v165] : Fin 1 → IVec S16 32) a x).toNat < S16000.size a := fun v165 k0_hw12 => k0_hw12.1
theorem k0_idx24_inb : ∀ (v165 : IVec S16 32) (k0_hw12 : k0_chk12 v165), ∀ a x, ((![v165] : Fin 1 → IVec S16 32) a x).toNat < S16000.size a := fun v165 k0_hw12 => k0_hw12.2
def k0_off15 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c200_i32_10 : BitVec 32 := 200#32
  let v13 : BitVec 32 := Scalar.muli arg12 c200_i32_10
  let c184_i32 : BitVec 32 := 184#32
  let v171 : BitVec 32 := Scalar.addi v13 c184_i32
  let v172 : Index := Scalar.indexCast v171
  ![v172.toNat]

def k0_chk13 (v178 : IVec S16 32) : Prop :=
  (∀ a x, ((![v178] : Fin 1 → IVec S16 32) a x).toNat < S16000.size a) ∧
  (∀ a x, ((![v178] : Fin 1 → IVec S16 32) a x).toNat < S16000.size a)
theorem k0_idx25_inb : ∀ (v178 : IVec S16 32) (k0_hw13 : k0_chk13 v178), ∀ a x, ((![v178] : Fin 1 → IVec S16 32) a x).toNat < S16000.size a := fun v178 k0_hw13 => k0_hw13.1
theorem k0_idx26_inb : ∀ (v178 : IVec S16 32) (k0_hw13 : k0_chk13 v178), ∀ a x, ((![v178] : Fin 1 → IVec S16 32) a x).toNat < S16000.size a := fun v178 k0_hw13 => k0_hw13.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S16384x200 : Shape := ⟨2, ![16384, 200]⟩
abbrev S16384 : Shape := ⟨1, ![16384]⟩
abbrev S16384x1 : Shape := ⟨2, ![16384, 1]⟩
abbrev S_ : Shape := ⟨0, ![]⟩
abbrev S16384x200x1 : Shape := ⟨3, ![16384, 200, 1]⟩
abbrev S16384x200x2 : Shape := ⟨3, ![16384, 200, 2]⟩

abbrev nBuf : Space → Nat
  | .hbm => 24
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x200, .i32⟩
  | .hbm, ⟨2, _⟩ => ⟨S16384x200, .f32⟩
  | .hbm, ⟨3, _⟩ => ⟨S16384, .i32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S_, .i32⟩
  | .hbm, ⟨13, _⟩ => ⟨S16384x200, .i32⟩
  | .hbm, ⟨14, _⟩ => ⟨S16384x200, .i1⟩
  | .hbm, ⟨15, _⟩ => ⟨S_, .i32⟩
  | .hbm, ⟨16, _⟩ => ⟨S16384x200, .i32⟩
  | .hbm, ⟨17, _⟩ => ⟨S16384x200, .i32⟩
  | .hbm, ⟨18, _⟩ => ⟨S16384x200, .i32⟩
  | .hbm, ⟨19, _⟩ => ⟨S16384x200, .i32⟩
  | .hbm, ⟨20, _⟩ => ⟨S16384x200x1, .i32⟩
  | .hbm, ⟨21, _⟩ => ⟨S16384x200x1, .i32⟩
  | .hbm, ⟨22, _⟩ => ⟨S16384x200x2, .i32⟩
  | .hbm, ⟨23, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.InRange.lean ====
/-
  What the precondition says of one index: it is the number of a column.
-/
module

public import Idealize.ShloMosaic.Lib.ReduceAll
public import Idealize.ShloMosaic.Lib.Affine
public import proofs.«01_k».proof.Pre_in_range

@[expose] public section

namespace Cert.InRange

open Idealize.ShloMosaic

/-- A word at least 0 and below 1000, both read as signed, is below 1000 read as a natural. -/
theorem lt_of_bounds (x : BitVec 32) (h : IntOp.andi (IntOp.cmpi .sge x 0#32) (IntOp.cmpi .slt x 1000#32) = 1#1) : x.toNat < 1000 := by
  rw [IntOp.andi_eq_one, IntOp.cmpi_sge, IntOp.cmpi_slt] at h
  obtain ⟨h0, h1⟩ := h
  have e0 : (0#32 : BitVec 32).toInt = 0 := by decide
  have e1 : (1000#32 : BitVec 32).toInt = 1000 := by decide
  rw [e0] at h0
  rw [e1] at h1
  have hx := x.isLt
  rw [BitVec.toInt_eq_toNat_cond] at h0 h1
  split_ifs at h0 h1 <;> omega

/-- Where the precondition holds every index is below 1000. -/
theorem lt_of_pre {F : FTy → Type} [FloatOps F] [Cert.Pre_in_range.Facts] (a0 : FVec F Cert.Pre_in_range.S16384x1000 .f32) (a1 : IVec Cert.Pre_in_range.S16384x200 32)
    (a2 : FVec F Cert.Pre_in_range.S16384x200 .f32) (h : Cert.Pre_in_range.fn a0 a1 a2 = fun _ => 1#1) (i : Cert.Pre_in_range.S16384x200.Idx) : (a1 i).toNat < 1000 := by
  haveI : Subsingleton Cert.Pre_in_range.S_.Idx := ⟨fun x y => funext fun a => a.elim0⟩
  have e := congrFun h (fun a => a.elim0)
  unfold Cert.Pre_in_range.fn at e
  exact lt_of_bounds _ (Host.reduce_andi_all _ _ _ _ _ e i)

end Cert.InRange
-- ==== Proof.Window.lean ====
/-
  One chunk of the kernel as a function of its tables, and what one masked store of sixteen lanes does to it.

  A chunk is sixteen rows of a thousand data elements with, beside each row, two hundred (column, update) slots. The kernel keeps, for
  every data element, the number of the slot that is to fill it (the element's WORD, read off the winners' table). It passes over a
  row's slots in windows of sixteen and stores the update of a slot exactly when the element the slot names has that slot's number as its
  word. `cell` is what the chunk holds when the slots below a given one have been passed; `window_step` says that a window's store
  takes it from one window's first slot to its last.
-/
module

public import Idealize.ShloMosaic.Lib.ValueIdx
public import Idealize.ShloMosaic.Lib.Pointwise

@[expose] public section

namespace Cert.Window

open Idealize.ShloMosaic

/-- Element `k` of a flat table of `n` elements, `k` taken modulo `n`. -/
def rd {n : ℕ} [NeZero n] {α : Type} (f : (⟨1, ![n]⟩ : Shape).Idx → α) (k : ℕ) : α := f (ValueIdx.ix1 (Fin.ofNat n k))

/-- An element of a flat table, read at its own number. -/
theorem rd_val {n : ℕ} [NeZero n] {α : Type} (f : (⟨1, ![n]⟩ : Shape).Idx → α) (i : (⟨1, ![n]⟩ : Shape).Idx) : rd f (i 0).val = f i := by
  unfold rd
  congr 1
  rw [ValueIdx.eq_ix1 i]
  congr 1
  apply Fin.ext
  exact Nat.mod_eq_of_lt (i 0).isLt

/-- Reading a flat table at the number of a given index. -/
theorem rd_eq {n : ℕ} [NeZero n] {α : Type} (f : (⟨1, ![n]⟩ : Shape).Idx → α) (i : (⟨1, ![n]⟩ : Shape).Idx) {k : ℕ} (h : k = (i 0).val) :
    rd f k = f i := by rw [h, rd_val]

/-- Reading the flat table that holds `g` of each element's number. -/
theorem rd_mk {n : ℕ} [NeZero n] {α : Type} (g : ℕ → α) {k : ℕ} (h : k < n) : rd (n := n) (fun i => g (i 0).val) k = g k := by
  unfold rd
  exact congrArg g (Nat.mod_eq_of_lt h)

section Cell

variable {α : Type} (D : ℕ → α) (W I : ℕ → ℕ) (U : ℕ → α)

/-- Element `l` of the data when the slots below `n` have been passed: with `W l` its word, the update of slot `W l` of its row if that
    is one of the row's slots, names `l`'s column and lies below `n`; otherwise the data element itself. -/
def cell (n l : ℕ) : α :=
  if W l < 200 ∧ I (l / 1000 * 200 + W l) = l % 1000 ∧ l / 1000 * 200 + W l < n then U (l / 1000 * 200 + W l) else D l

/-- With no slot passed, the data. -/
theorem cell_zero (l : ℕ) : cell D W I U 0 l = D l := if_neg fun h => Nat.not_lt_zero _ h.2.2

/-- A chunk of the whole tables beginning at row `R` is the whole tables' `cell` there: its elements begin at `1000 R` and its slots at
    `200 R`. -/
theorem cell_chunk (R n l : ℕ) :
    cell (fun l => D (1000 * R + l)) (fun l => W (1000 * R + l)) (fun k => I (200 * R + k)) (fun k => U (200 * R + k)) n l
      = cell D W I U (200 * R + n) (1000 * R + l) := by
  unfold cell
  have h1 : (1000 * R + l) / 1000 = R + l / 1000 := by omega
  have h2 : (1000 * R + l) % 1000 = l % 1000 := by omega
  have h3 : (R + l / 1000) * 200 + W (1000 * R + l) = 200 * R + (l / 1000 * 200 + W (1000 * R + l)) := by ring
  rw [h1, h2, h3]
  refine if_congr (and_congr_right fun _ => and_congr_right fun _ => ?_) rfl rfl
  dsimp only
  omega

/-- Beyond the last slot of an element's row, nothing changes any more. -/
theorem cell_done {n n' l : ℕ} (hn : l / 1000 * 200 + 200 ≤ n) (hn' : l / 1000 * 200 + 200 ≤ n') : cell D W I U n l = cell D W I U n' l := by
  unfold cell
  refine if_congr (and_congr_right fun h => and_congr_right fun _ => ?_) rfl rfl
  omega

/-- `cell` reads its tables only at the element, at the two hundred slots of the element's row. -/
theorem cell_congr {D' : ℕ → α} {W' I' : ℕ → ℕ} {U' : ℕ → α} {n l : ℕ} (hD : D l = D' l) (hW : W l = W' l)
    (hI : ∀ j, j < 200 → I (l / 1000 * 200 + j) = I' (l / 1000 * 200 + j)) (hU : ∀ j, j < 200 → U (l / 1000 * 200 + j) = U' (l / 1000 * 200 + j)) :
    cell D W I U n l = cell D' W' I' U' n l := by
  unfold cell
  rw [← hW, ← hD]
  by_cases h : W l < 200
  · rw [hI _ h, hU _ h]
  · rw [if_neg fun q => h q.1, if_neg fun q => h q.1]

/-- One window of row `r`, from column-slot `jo`: from any progress inside the window, the elements some lane hits take that lane's
    update and the others stay — which is the state at the window's end. -/
theorem cell_window {r jo p l : ℕ} (hjo : jo + 16 ≤ 200) (hp : r * 200 + jo ≤ p) (hp' : p ≤ r * 200 + jo + 16)
    (hI : ∀ k, k < 16 → I (r * 200 + jo + k) < 1000) :
    (∀ k, k < 16 → I (r * 200 + jo + k) + r * 1000 = l → W l = k + jo → U (r * 200 + jo + k) = cell D W I U (r * 200 + jo + 16) l)
      ∧ ((∀ k, k < 16 → I (r * 200 + jo + k) + r * 1000 = l → W l ≠ k + jo) → cell D W I U p l = cell D W I U (r * 200 + jo + 16) l) := by
  constructor
  · intro k hk hl hw
    have hIk := hI k hk
    have h1 : l / 1000 = r := by omega
    have h2 : l % 1000 = I (r * 200 + jo + k) := by omega
    have h3 : r * 200 + W l = r * 200 + jo + k := by omega
    unfold cell
    rw [h1, h2, h3, if_pos ⟨by omega, rfl, by omega⟩]
  · intro hn
    unfold cell
    refine if_congr (and_congr_right fun hw => and_congr_right fun hi => ?_) rfl rfl
    by_cases hs : r * 200 + jo ≤ l / 1000 * 200 + W l ∧ l / 1000 * 200 + W l < r * 200 + jo + 16
    · exfalso
      have h1 : l / 1000 = r := by omega
      rw [h1] at hi hs
      refine hn (W l - jo) (by omega) ?_ (by omega)
      rw [show r * 200 + jo + (W l - jo) = r * 200 + W l by omega, hi]
      omega
    · omega

end Cell

/-! ## The masked store of one vector -/

section Store

variable {F : FTy → Type} [FloatOps F] {s : Shape} {e : EltTy} {d : Fin 1 → ℕ}

/-- What a left fold of conditional overwrites leaves at one place, `hit k` saying whether step `k` writes it: untouched when no step
    writes it, and `y` when some step does and every one that does writes `y`. -/
theorem foldl_put {β ι α : Type} (step : (ι → α) → β → ι → α) (j : ι) (hit : β → Prop) (v : β → α)
    (hhit : ∀ g k, hit k → step g k j = v k) (hmiss : ∀ g k, ¬ hit k → step g k j = g j) (y : α) :
    ∀ (l : List β) (g : ι → α), (∀ k ∈ l, hit k → v k = y) →
      ((∀ k ∈ l, ¬ hit k) → l.foldl step g j = g j) ∧ (((∃ k ∈ l, hit k) ∨ g j = y) → l.foldl step g j = y)
  | [], g, _ => ⟨fun _ => rfl, fun h => h.elim (fun ⟨_, h, _⟩ => absurd h List.not_mem_nil) id⟩
  | k :: l, g, hv => by
    have ih := foldl_put step j hit v hhit hmiss y l (step g k) fun k' h' => hv k' (List.mem_cons_of_mem _ h')
    rw [List.foldl_cons]
    refine ⟨fun h => (ih.1 fun k' h' => h k' (List.mem_cons_of_mem _ h')).trans (hmiss g k (h k List.mem_cons_self)), fun h => ih.2 ?_⟩
    by_cases hk : hit k
    · exact .inr ((hhit g k hk).trans (hv k List.mem_cons_self hk))
    · rcases h with ⟨k', h', hk'⟩ | h
      · rcases List.mem_cons.mp h' with rfl | h'
        · exact absurd hk' hk
        · exact .inl ⟨k', h', hk'⟩
      · exact .inr ((hmiss g k hk).trans h)

/-- A masked overwriting store at one place: with `y` the value of every set lane that names the place, the store leaves `y` there if
    there is such a lane, and what was there otherwise. -/
theorem storeIdx_at (f : Vec F s e) (idxs : Fin s.rank → IVec ⟨1, d⟩ 32) (v : Vec F ⟨1, d⟩ e) (mask : IVec ⟨1, d⟩ 1)
    (h : ∀ a x, (idxs a x).toNat < s.size a) (j : s.Idx) (y : Elt F e)
    (hit : ∀ k : Fin (d 0), mask (Shape.ofLane k) = 1 → (∀ a, (idxs a (Shape.ofLane k)).toNat = (j a).val) → v (Shape.ofLane k) = y)
    (miss : (∀ k : Fin (d 0), mask (Shape.ofLane k) = 1 → ¬ ∀ a, (idxs a (Shape.ofLane k)).toNat = (j a).val) → f j = y) :
    storeIdx f idxs v mask false h j = y := by
  have key := foldl_put (α := Elt F e) (β := Fin (d 0))
    (hit := fun k => mask (Shape.ofLane k) = 1 ∧ ∀ a, (idxs a (Shape.ofLane k)).toNat = (j a).val) (v := fun k => v (Shape.ofLane k)) (j := j) (y := y)
  unfold storeIdx
  refine (key _ (fun g k hk => ?_) (fun g k hk => ?_) (List.finRange (d 0)) f fun k _ hk => hit k hk.1 hk.2).2 ?_
  · have hk2 : ∀ a, (j a).val = (idxAt idxs h (Shape.ofLane k) a).val := fun a => (hk.2 a).symm
    simp only [if_pos hk.1, if_pos hk2]
    rfl
  · by_cases hm : mask (Shape.ofLane k) = 1
    · have hk2 : ¬ ∀ a, (j a).val = (idxAt idxs h (Shape.ofLane k) a).val := fun q => hk ⟨hm, fun a => (q a).symm⟩
      simp only [if_pos hm, if_neg hk2]
    · simp only [if_neg hm]
  · by_cases hex : ∃ k : Fin (d 0), mask (Shape.ofLane k) = 1 ∧ ∀ a, (idxs a (Shape.ofLane k)).toNat = (j a).val
    · obtain ⟨k, hk⟩ := hex
      exact .inl ⟨k, List.mem_finRange k, hk⟩
    · exact .inr (miss fun k hm hk => hex ⟨k, hm, hk⟩)

end Store

/-! ## One window of the kernel -/

section Step

variable {F : FTy → Type} [FloatOps F]

/-- The flat tables of a chunk. -/
abbrev Rows (F : FTy → Type) := Vec F (⟨1, ![16000]⟩ : Shape) .f32
/-- The sixteen lanes of a window. -/
abbrev L16 : Shape := ⟨1, ![16]⟩

/-- The chunk's rows when the slots below `n` have been passed, from the data, the winners' table, the columns and the updates. -/
def rows (D Wn : Rows F) (I : Vec F (⟨1, ![3200]⟩ : Shape) .i32) (U : Vec F (⟨1, ![3200]⟩ : Shape) .f32) (n : ℕ) : Rows F :=
  fun i => cell (rd D) (fun l => (FloatOps.fptosi 32 (rd Wn l)).toNat) (fun k => (rd I k).toNat) (rd U) n (i 0).val

/-- Before any slot, the rows are the data. -/
theorem rows_zero (D Wn : Rows F) (I : Vec F (⟨1, ![3200]⟩ : Shape) .i32) (U : Vec F (⟨1, ![3200]⟩ : Shape) .f32) : rows D Wn I U 0 = D := by
  funext i
  exact (cell_zero _ _ _ _ _).trans (rd_val D i)

/-- A lane's place among the chunk's elements: its slot's column plus the row's first element, when the column is one of the row's. -/
theorem lin_toNat {r : ℕ} (hr : r < 16) {w v14 : BitVec 32} (hw : w.toNat < 1000) (hv : v14.toNat = r * 1000) :
    (w + v14).toNat = w.toNat + r * 1000 := by
  rw [BitVec.toNat_add, hv]
  omega

/-- Every lane's place is one of the chunk's elements. -/
theorem lin_lt {r : ℕ} (hr : r < 16) {v14 : BitVec 32} (hv : v14.toNat = r * 1000) (v17 : IVec L16 32) (h17 : ∀ x, (v17 x).toNat < 1000) :
    ∀ (a : Fin 1) (x : L16.Idx), ((![addi v17 (broadcast L16 v14)] : Fin 1 → IVec L16 32) a x).toNat < (⟨1, ![16000]⟩ : Shape).size a := by
  intro a x
  obtain rfl : a = 0 := Subsingleton.elim _ _
  show (v17 x + v14).toNat < 16000
  rw [lin_toNat hr (h17 x) hv]
  have := h17 x
  omega

/-- The lane numbers a window compares words with. -/
theorem lane_toNat {jo : ℕ} (hjo : jo + 16 ≤ 200) (v3 : IVec L16 32) (h3 : ∀ k : Fin 16, v3 (Shape.ofLane k) = BitVec.ofNat 32 k.val) (k : Fin 16) :
    ((addi v3 (broadcast L16 (BitVec.ofNat 32 jo)) : IVec L16 32) (Shape.ofLane k)).toNat = k.val + jo := by
  show (v3 (Shape.ofLane k) + BitVec.ofNat 32 jo).toNat = _
  rw [h3 k, BitVec.toNat_add, BitVec.toNat_ofNat, BitVec.toNat_ofNat]
  have := k.isLt
  omega

/-- One window's masked store, from the loaded columns `v17` and updates `v20` of the sixteen slots from `r · 200 + jo`: it takes the
    rows from any progress within the window to the window's end. -/
theorem window_step (D Wn : Rows F) (I : Vec F (⟨1, ![3200]⟩ : Shape) .i32) (U : Vec F (⟨1, ![3200]⟩ : Shape) .f32)
    {r jo p : ℕ} (hr : r < 16) (hjo : jo + 16 ≤ 200) (hp : r * 200 + jo ≤ p) (hp' : p ≤ r * 200 + jo + 16)
    (hI : ∀ i, (I i).toNat < 1000)
    {v14 : BitVec 32} (hv : v14.toNat = r * 1000) (v3 : IVec L16 32) (h3 : ∀ k : Fin 16, v3 (Shape.ofLane k) = BitVec.ofNat 32 k.val)
    (v17 : IVec L16 32) (v20 : Vec F L16 .f32) (h17 : ∀ k : Fin 16, v17 (Shape.ofLane k) = rd I (r * 200 + jo + k.val))
    (h20 : ∀ k : Fin 16, v20 (Shape.ofLane k) = rd U (r * 200 + jo + k.val))
    (h h' : ∀ a x, ((![addi v17 (broadcast L16 v14)] : Fin 1 → IVec L16 32) a x).toNat < (⟨1, ![16000]⟩ : Shape).size a) :
    storeIdx (F := F) (rows D Wn I U p) ![addi v17 (broadcast L16 v14)] v20
        (cmpi .eq (fptosi (F := F) (φ := .f32) 32 (loadIdx (F := F) (e := .f32) Wn ![addi v17 (broadcast L16 v14)] h)) (addi v3 (broadcast L16 (BitVec.ofNat 32 jo))))
        false h'
      = rows D Wn I U (r * 200 + jo + 16) := by
  funext i
  have hIr : ∀ k, (rd I k).toNat < 1000 := fun k => hI _
  have hcw := cell_window (rd D) (fun l => (FloatOps.fptosi 32 (rd Wn l)).toNat) (fun k => (rd I k).toNat) (rd U) (l := (i 0).val) hjo hp hp'
    (fun k _ => hIr _)
  have hplace : ∀ k : Fin 16, ((addi v17 (broadcast L16 v14) : IVec L16 32) (Shape.ofLane k)).toNat = (rd I (r * 200 + jo + k.val)).toNat + r * 1000 := by
    intro k
    show (v17 (Shape.ofLane k) + v14).toNat = _
    rw [h17 k, lin_toNat hr (hIr _) hv]
  have hall : ∀ k : Fin 16, (∀ a, ((![addi v17 (broadcast L16 v14)] : Fin 1 → IVec L16 32) a (Shape.ofLane k)).toNat = (i a).val)
      ↔ (rd I (r * 200 + jo + k.val)).toNat + r * 1000 = (i 0).val := by
    intro k
    constructor
    · intro q; rw [← hplace k]; exact q 0
    · intro q a
      obtain rfl : a = 0 := Subsingleton.elim _ _
      exact (hplace k).trans q
  have hmask : ∀ k : Fin 16, (∀ a, ((![addi v17 (broadcast L16 v14)] : Fin 1 → IVec L16 32) a (Shape.ofLane k)).toNat = (i a).val) →
      ((cmpi .eq (fptosi (F := F) (φ := .f32) 32 (loadIdx (F := F) (e := .f32) Wn ![addi v17 (broadcast L16 v14)] h)) (addi v3 (broadcast L16 (BitVec.ofNat 32 jo))) : IVec L16 1)
          (Shape.ofLane k) = 1
        ↔ (FloatOps.fptosi 32 (rd Wn (i 0).val)).toNat = k.val + jo) := by
    intro k ha
    have hidx : idxAt (s := ⟨1, ![16000]⟩) (![addi v17 (broadcast L16 v14)] : Fin 1 → IVec L16 32) h (Shape.ofLane k) = i :=
      funext fun a => Fin.ext (ha a)
    show IntOp.cmpi .eq (FloatOps.fptosi 32 (Wn (idxAt _ h (Shape.ofLane k)))) ((addi v3 (broadcast L16 (BitVec.ofNat 32 jo)) : IVec L16 32) (Shape.ofLane k)) = 1 ↔ _
    rw [hidx, rd_val, ← lane_toNat hjo v3 h3 k, BitVec.toNat_inj]
    simp only [IntOp.cmpi]
    generalize FloatOps.fptosi 32 (Wn i) = x
    generalize (addi v3 (broadcast L16 (BitVec.ofNat 32 jo)) : IVec L16 32) (Shape.ofLane k) = y
    by_cases hxy : x = y
    · subst hxy; simp
    · rw [show (x == y) = false from beq_false_of_ne hxy]
      exact iff_of_false (by decide) hxy
  refine storeIdx_at _ _ _ _ _ _ _ (fun k hm ha => ?_) (fun hm => ?_)
  · rw [h20 k]
    exact hcw.1 k.val k.isLt ((hall k).1 ha) ((hmask k ha).1 hm)
  · refine hcw.2 fun k hk hl hw => ?_
    have ha := (hall ⟨k, hk⟩).2 hl
    exact hm ⟨k, hk⟩ ((hmask ⟨k, hk⟩ ha).2 hw) ha

end Step

/-! ## The whole result, and a chunk of it -/

section Whole

variable {F : FTy → Type} [FloatOps F] (fD fW : Vec F (⟨1, ![16384000]⟩ : Shape) .f32) (fI : Vec F (⟨1, ![3276800]⟩ : Shape) .i32)
  (fU : Vec F (⟨1, ![3276800]⟩ : Shape) .f32)

/-- The result the tiles leave, from the data, the winners' table, the columns and the updates, each array flat: an element of the data,
    or the update of the slot its word names when that slot is one of the row's two hundred and its column is the element's. -/
def out : Vec F (⟨1, ![16384000]⟩ : Shape) .f32 :=
  fun p => cell (rd fD) (fun l => (FloatOps.fptosi 32 (rd fW l)).toNat) (fun k => (rd fI k).toNat) (rd fU) 3276800 (p 0).val

/-- The sixteen rows from row `R`, every slot passed, are the whole result's. -/
theorem rows_out {R : ℕ} (hR : R + 16 ≤ 16384) (Dt Wt : Rows F) (It : Vec F (⟨1, ![3200]⟩ : Shape) .i32) (Ut : Vec F (⟨1, ![3200]⟩ : Shape) .f32)
    (hD : ∀ l, l < 16000 → rd Dt l = rd fD (1000 * R + l)) (hW : ∀ l, l < 16000 → rd Wt l = rd fW (1000 * R + l))
    (hI : ∀ k, k < 3200 → rd It k = rd fI (200 * R + k)) (hU : ∀ k, k < 3200 → rd Ut k = rd fU (200 * R + k))
    (i : (⟨1, ![16000]⟩ : Shape).Idx) (p : (⟨1, ![16384000]⟩ : Shape).Idx) (hp : (p 0).val = 1000 * R + (i 0).val) :
    rows Dt Wt It Ut 3200 i = out fD fW fI fU p := by
  have hi : (i 0).val < 16000 := (i 0).isLt
  have hrow : (i 0).val / 1000 < 16 := by omega
  unfold rows out
  rw [hp, cell_done (rd fD) _ _ (rd fU) (n := 3276800) (n' := 200 * R + 3200) (by omega) (by omega), ← cell_chunk]
  refine cell_congr _ _ _ _ (hD _ hi) (by rw [hW _ hi]) (fun j hj => ?_) fun j hj => ?_
  · rw [hI _ (by omega)]
  · rw [hU _ (by omega)]

end Whole

end Cert.Window
-- ==== Proof.KernelIdeal.Tile.lean ====
module

public import proofs.«01_k».proof.Proof.Window
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.Pipeline.Kit
public import Idealize.ShloMosaic.Lib.Tactic

/-!
  One tile's run. A tile takes five hundred and twelve rows, sixteen at a time: it copies the rows of the data and of the winners' table
  and the rows' columns and updates into its scratch buffers, passes each row's two hundred slots in thirteen windows of sixteen (the last
  window overlapping the one before it), and copies the rows out.
-/

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Window

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev aD : Memref Cert.KernelIdeal.sig Kind.scVector Space.hbm Cert.KernelIdeal.S16384000 EltTy.f32 := Memref.whole Cert.KernelIdeal.main_v25_scv
abbrev aI : Memref Cert.KernelIdeal.sig Kind.scVector Space.hbm Cert.KernelIdeal.S3276800 EltTy.i32 := Memref.whole Cert.KernelIdeal.main_v26_scv
abbrev aU : Memref Cert.KernelIdeal.sig Kind.scVector Space.hbm Cert.KernelIdeal.S3276800 EltTy.f32 := Memref.whole Cert.KernelIdeal.main_v27_scv
abbrev aW : Memref Cert.KernelIdeal.sig Kind.scVector Space.hbm Cert.KernelIdeal.S16384000 EltTy.f32 := Memref.whole Cert.KernelIdeal.main_v28_scv
abbrev aO : Memref Cert.KernelIdeal.sig Kind.scVector Space.hbm Cert.KernelIdeal.S16384000 EltTy.f32 := Memref.whole Cert.KernelIdeal.main_v29_scv
abbrev bD : Memref Cert.KernelIdeal.sig Kind.scVector Space.vmem Cert.KernelIdeal.S16000 EltTy.f32 := Memref.whole Cert.KernelIdeal.cc0_scratch0
abbrev bW : Memref Cert.KernelIdeal.sig Kind.scVector Space.vmem Cert.KernelIdeal.S16000 EltTy.f32 := Memref.whole Cert.KernelIdeal.cc0_scratch1
abbrev bI : Memref Cert.KernelIdeal.sig Kind.scVector Space.vmem Cert.KernelIdeal.S3200 EltTy.i32 := Memref.whole Cert.KernelIdeal.cc0_scratch2
abbrev bU : Memref Cert.KernelIdeal.sig Kind.scVector Space.vmem Cert.KernelIdeal.S3200 EltTy.f32 := Memref.whole Cert.KernelIdeal.cc0_scratch3

variable [FloatOps F]

abbrev cV (L : grid0.Coords) : Fin τ.nSC := (L 0).castLE hcore0
abbrev jV (L : grid0.Coords) : Fin τ.nSub := (L 1).castLE hsub0

/-- One window of a row. -/
def winStep (L : grid0.Coords) (off : Fin 1 → ℕ) (inb : ∀ a, off a + S16.size a ≤ S3200.size a) (chk : IVec S16 32 → Prop) (dec : ∀ v, Decidable (chk v))
    (h1 h2 : ∀ v, chk v → ∀ a x, ((![v] : Fin 1 → IVec S16 32) a x).toNat < S16000.size a) (v3 : IVec S16 32) (v14 jo : BitVec 32) :
    Prog (TpuEff nD τ sig (Elt F) Λ₀ (.scVector (cV L) (jV L))) PUnit := do
  let v17 : Vec F S16 .i32 ← Prog.lift (.load bI (Rect.unit (s := S3200) off S16.size inb).toLoadRect (View.loadsAt_vmem h_S16))
  let v20 : Vec F S16 .f32 ← Prog.lift (.load bU (Rect.unit (s := S3200) off S16.size inb).toLoadRect (View.loadsAt_vmem h_S16))
  have hw := (← Prog.lift (TpuEff.assume (chk (addi v17 (broadcast S16 v14))) (dec _))).down
  let v23 : Vec F S16 .f32 ← SparseCore.vectorLoadIdx bW ![addi v17 (broadcast S16 v14)] (h1 _ hw) (View.loads_vmem h_S16000)
  SparseCore.vectorStoreIdx bD ![addi v17 (broadcast S16 v14)] v20 (cmpi .eq (fptosi 32 v23) (addi v3 (broadcast S16 jo))) false (h2 _ hw)
    (View.stores_vmem_bits_univ h_S16000 rfl)

/-- A window at the head of a program, as its five operations one after the other. -/
theorem winStep_bind {β : Type} (L : grid0.Coords) (off : Fin 1 → ℕ) (inb : ∀ a, off a + S16.size a ≤ S3200.size a) (chk : IVec S16 32 → Prop) (dec : ∀ v, Decidable (chk v))
    (h1 h2 : ∀ v, chk v → ∀ a x, ((![v] : Fin 1 → IVec S16 32) a x).toNat < S16000.size a) (v3 : IVec S16 32) (v14 jo : BitVec 32)
    (k : PUnit → Prog (TpuEff nD τ sig (Elt F) Λ₀ (.scVector (cV L) (jV L))) β) :
    winStep L off inb chk dec h1 h2 v3 v14 jo >>= k
      = .op (.load bI (Rect.unit (s := S3200) off S16.size inb).toLoadRect (View.loadsAt_vmem h_S16)) fun (v17 : IVec S16 32) =>
        .op (.load bU (Rect.unit (s := S3200) off S16.size inb).toLoadRect (View.loadsAt_vmem h_S16)) fun (v20 : Vec F S16 .f32) =>
        .op (.assume (chk (addi v17 (broadcast S16 v14))) (dec _)) fun hw =>
        SparseCore.vectorLoadIdx bW ![addi v17 (broadcast S16 v14)] (h1 _ hw.down) (View.loads_vmem h_S16000) >>= fun v23 =>
        SparseCore.vectorStoreIdx bD ![addi v17 (broadcast S16 v14)] v20 (cmpi .eq (fptosi (F := F) (φ := .f32) 32 v23) (addi v3 (broadcast S16 jo))) false (h2 _ hw.down)
          (View.stores_vmem_bits_univ h_S16000 rfl) >>= k := rfl

set_option maxRecDepth 65536 in
set_option maxHeartbeats 4000000 in
/-- One row: its thirteen windows one after the other, the last overlapping the one before it. -/
theorem body_eq (L : grid0.Coords) (v3 : IVec S16 32) (r : Fin k0_t2_loop.trips) :
    k0_t2_body (F := F) L aD (Memref.isWhole_whole _) aI (Memref.isWhole_whole _) aU (Memref.isWhole_whole _) aW (Memref.isWhole_whole _)
        aO (Memref.isWhole_whole _) bD (Memref.isWhole_whole _) bW (Memref.isWhole_whole _) bI (Memref.isWhole_whole _) bU (Memref.isWhole_whole _)
        cc0_scoped0 cc0_scoped1 cc0_scoped2 cc0_scoped3 cc0_scoped4 v3 r ()
      = (do
        let v14 := Scalar.muli (Scf.iv 0#32 1#32 r) 1000#32
        winStep L (k0_off3 r) (k0_off3_inb r) k0_chk1 k0_chk1.dec k0_idx1_inb k0_idx2_inb v3 v14 0#32
        winStep L (k0_off4 r) (k0_off4_inb r) k0_chk2 k0_chk2.dec k0_idx3_inb k0_idx4_inb v3 v14 16#32
        winStep L (k0_off5 r) (k0_off5_inb r) k0_chk3 k0_chk3.dec k0_idx5_inb k0_idx6_inb v3 v14 32#32
        winStep L (k0_off6 r) (k0_off6_inb r) k0_chk4 k0_chk4.dec k0_idx7_inb k0_idx8_inb v3 v14 48#32
        winStep L (k0_off7 r) (k0_off7_inb r) k0_chk5 k0_chk5.dec k0_idx9_inb k0_idx10_inb v3 v14 64#32
        winStep L (k0_off8 r) (k0_off8_inb r) k0_chk6 k0_chk6.dec k0_idx11_inb k0_idx12_inb v3 v14 80#32
        winStep L (k0_off9 r) (k0_off9_inb r) k0_chk7 k0_chk7.dec k0_idx13_inb k0_idx14_inb v3 v14 96#32
        winStep L (k0_off10 r) (k0_off10_inb r) k0_chk8 k0_chk8.dec k0_idx15_inb k0_idx16_inb v3 v14 112#32
        winStep L (k0_off11 r) (k0_off11_inb r) k0_chk9 k0_chk9.dec k0_idx17_inb k0_idx18_inb v3 v14 128#32
        winStep L (k0_off12 r) (k0_off12_inb r) k0_chk10 k0_chk10.dec k0_idx19_inb k0_idx20_inb v3 v14 144#32
        winStep L (k0_off13 r) (k0_off13_inb r) k0_chk11 k0_chk11.dec k0_idx21_inb k0_idx22_inb v3 v14 160#32
        winStep L (k0_off14 r) (k0_off14_inb r) k0_chk12 k0_chk12.dec k0_idx23_inb k0_idx24_inb v3 v14 176#32
        winStep L (k0_off15 r) (k0_off15_inb r) k0_chk13 k0_chk13.dec k0_idx25_inb k0_idx26_inb v3 v14 184#32
        pure ⟨⟩) := rfl

/-! ## One window -/

/-- Lane `k` of the sixteen elements loaded from place `b` of a table of the columns. -/
theorem lane_cols (It : Vec F S3200 .i32) {b : ℕ} (inb : ∀ a, (![b] : Fin 1 → ℕ) a + S16.size a ≤ S3200.size a) (k : Fin 16) :
    View.readAt (Elt F) (bI).view (Rect.unit (s := S3200) ![b] S16.size inb).toLoadRect It (Shape.ofLane k) = rd It (b + k.val) :=
  (rd_eq (n := 3200) It _ (show b + k.val = b + 1 * k.val by omega)).symm

/-- The same of the updates. -/
theorem lane_upds (Ut : Vec F S3200 .f32) {b : ℕ} (inb : ∀ a, (![b] : Fin 1 → ℕ) a + S16.size a ≤ S3200.size a) (k : Fin 16) :
    View.readAt (Elt F) (bU).view (Rect.unit (s := S3200) ![b] S16.size inb).toLoadRect Ut (Shape.ofLane k) = rd Ut (b + k.val) :=
  (rd_eq (n := 3200) Ut _ (show b + k.val = b + 1 * k.val by omega)).symm

section Row

variable (d : Dev nD) (L : grid0.Coords)

/-- The tile's four scratch buffers: the rows, the winners' table, the columns and the updates. -/
abbrev scr (f w : Rows F) (i : Vec F S3200 .i32) (u : Vec F S3200 .f32) : sProp 𝕄 :=
  iprop(((V d (cV L) (jV L)).loc cc0_scratch0 ↦{fullShare} f) ∗ ((V d (cV L) (jV L)).loc cc0_scratch1 ↦{fullShare} w)
    ∗ ((V d (cV L) (jV L)).loc cc0_scratch2 ↦{fullShare} i) ∗ ((V d (cV L) (jV L)).loc cc0_scratch3 ↦{fullShare} u))

/-- A gather from the winners' table held whole. -/
theorem wp_gather {β : Type} {idxs : Fin S16000.rank → IVec S16 32} {h : ∀ a x, (idxs a x).toNat < S16000.size a} {hl} {f : Rows F}
    {k : Vec F S16 .f32 → Prog (TpuEff nD τ sig (Elt F) Λ₀ (.scVector (cV L) (jV L))) β} {Q : β → sProp 𝕄} :
    ((V d (cV L) (jV L)).loc cc0_scratch1 ↦{fullShare} f)
      ⊢ iprop((((V d (cV L) (jV L)).loc cc0_scratch1 ↦{fullShare} f)
          -∗ wp frame (wpE (defs₀ (F := F)) 𝒱₀ (V d (cV L) (jV L)) none) Set.univ (k (loadIdx (s := S16000) (t := S16) f idxs h)) Q)
        -∗ wp frame (wpE (defs₀ (F := F)) 𝒱₀ (V d (cV L) (jV L)) none) Set.univ (SparseCore.vectorLoadIdx bW idxs h hl >>= k) Q) := by
  have hw := SparseCore.wp_vectorLoadIdx (defs := defs₀ (F := F)) 𝒱₀ (V d (cV L) (jV L)) none Set.univ (base := Memref.whole cc0_scratch1) (idxs := idxs) (h := h) (hl := hl)
    (k := k) (Q := Q) (f := f) (S := Finset.univ) (q := fullShare) (Finset.subset_univ _)
  rw [Memref.read_access_whole] at hw
  exact hw

/-- A scatter into the rows held whole. -/
theorem wp_scatter {β : Type} {idxs : Fin S16000.rank → IVec S16 32} {v : Vec F S16 .f32} {mask : IVec S16 1}
    {h : ∀ a x, (idxs a x).toNat < S16000.size a} {hs} {f : Rows F}
    {k : PUnit → Prog (TpuEff nD τ sig (Elt F) Λ₀ (.scVector (cV L) (jV L))) β} {Q : β → sProp 𝕄} :
    ((V d (cV L) (jV L)).loc cc0_scratch0 ↦{fullShare} f)
      ⊢ iprop((((V d (cV L) (jV L)).loc cc0_scratch0 ↦{fullShare} storeIdx (s := S16000) f idxs v mask false h)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx bD idxs v mask false h hs >>= k) Q) := by
  have hset := Memref.set_access_whole (cc0_scratch0 : Ref sig .scVector)
  have hw := SparseCore.wp_vectorStoreIdx (defs := defs₀ (F := F)) 𝒱₀ (V d (cV L) (jV L)) none Set.univ (base := Memref.whole cc0_scratch0) (idxs := idxs) (v := v) (mask := mask) (add := false)
    (h := h) (hs := hs) (k := k) (Q := Q) (f := f)
  rw [hset, Memref.read_access_whole, Memref.write_access_whole_univ] at hw
  exact hw

set_option maxHeartbeats 1000000 in
/-- A window takes the rows from any progress inside it to its end, and leaves the other scratch buffers. -/
theorem wp_winStep {β : Type} (Dt Wt : Rows F) (It : Vec F S3200 .i32) (Ut : Vec F S3200 .f32) (hI : ∀ i, (It i).toNat < 1000)
    {r jo p : ℕ} (hr : r < 16) (hjo : jo + 16 ≤ 200) (hp : r * 200 + jo ≤ p) (hp' : p ≤ r * 200 + jo + 16)
    {off : Fin 1 → ℕ} (hoff : off = ![r * 200 + jo]) {inb : ∀ a, off a + S16.size a ≤ S3200.size a} {chk : IVec S16 32 → Prop} {dec : ∀ v, Decidable (chk v)}
    (hchk : ∀ v : IVec S16 32, (∀ a x, ((![v] : Fin 1 → IVec S16 32) a x).toNat < S16000.size a) → chk v)
    {h1 h2 : ∀ v, chk v → ∀ a x, ((![v] : Fin 1 → IVec S16 32) a x).toNat < S16000.size a} {v3 : IVec S16 32}
    (h3 : ∀ k : Fin 16, v3 (Shape.ofLane k) = BitVec.ofNat 32 k.val) {v14 : BitVec 32} (hv : v14.toNat = r * 1000)
    {k : PUnit → Prog (TpuEff nD τ sig (Elt F) Λ₀ (.scVector (cV L) (jV L))) β} {Q : β → sProp 𝕄} :
    scr d L (rows Dt Wt It Ut p) Wt It Ut
      ⊢ iprop((scr d L (rows Dt Wt It Ut (r * 200 + jo + 16)) Wt It Ut -∗ wp frame (wpE (defs₀ (F := F)) 𝒱₀ (V d (cV L) (jV L)) none) Set.univ (k ⟨⟩) Q)
        -∗ wp frame (wpE (defs₀ (F := F)) 𝒱₀ (V d (cV L) (jV L)) none) Set.univ
          (winStep L off inb chk dec h1 h2 v3 v14 (BitVec.ofNat 32 jo) >>= k) Q) := by
  subst hoff
  rw [winStep_bind]
  iintro ⟨HD, HW, HI, HU⟩ Hk
  iapply (wp_load 𝒱₀ (V d (cV L) (jV L)) none Set.univ (m := bI) (S := Finset.univ) (Finset.subset_univ _)) $$ HI; iintro HI
  iapply (wp_load 𝒱₀ (V d (cV L) (jV L)) none Set.univ (m := bU) (S := Finset.univ) (Finset.subset_univ _)) $$ HU; iintro HU
  have hlt := lin_lt hr hv (View.readAt (Elt F) (bI).view (Rect.unit (s := S3200) ![r * 200 + jo] S16.size inb).toLoadRect It) (fun x => hI _)
  rw [wp_assume_of _ _ _ _ (hchk _ hlt)]
  iapply (wp_gather d L) $$ HW; iintro HW
  iapply (wp_scatter d L) $$ HD; iintro HD
  rw [window_step Dt Wt It Ut hr hjo hp hp' hI hv v3 h3 _ _ (lane_cols It inb) (lane_upds Ut inb)]
  iapply Hk
  isplitl [HD]
  · iexact HD
  isplitl [HW]
  · iexact HW
  isplitl [HI]
  · iexact HI
  · iexact HU

set_option maxHeartbeats 4000000 in
/-- One row: from the rows' first `200 * r` slots scattered to its first `200 * (r + 1)`. -/
theorem wp_row (Dt Wt : Rows F) (It : Vec F S3200 .i32) (Ut : Vec F S3200 .f32) (hI : ∀ i, (It i).toNat < 1000)
    {v3 : IVec S16 32} (h3 : ∀ k : Fin 16, v3 (Shape.ofLane k) = BitVec.ofNat 32 k.val) (r : Fin k0_t2_loop.trips) {Q : Unit → sProp 𝕄} :
    scr d L (rows Dt Wt It Ut (200 * r.val)) Wt It Ut
      ⊢ iprop((scr d L (rows Dt Wt It Ut (200 * (r.val + 1))) Wt It Ut -∗ Q ())
        -∗ wp frame (wpE (defs₀ (F := F)) 𝒱₀ (V d (cV L) (jV L)) none) Set.univ
          (k0_t2_body (F := F) L aD (Memref.isWhole_whole _) aI (Memref.isWhole_whole _) aU (Memref.isWhole_whole _) aW (Memref.isWhole_whole _)
            aO (Memref.isWhole_whole _) bD (Memref.isWhole_whole _) bW (Memref.isWhole_whole _) bI (Memref.isWhole_whole _) bU (Memref.isWhole_whole _)
            cc0_scoped0 cc0_scoped1 cc0_scoped2 cc0_scoped3 cc0_scoped4 v3 r ()) Q) := by
  have hr : r.val < 16 := Nat.lt_of_lt_of_le r.isLt k0_t2_abs.2.1
  have hv : (Scalar.muli (Scf.iv 0#32 1#32 r) 1000#32).toNat = r.val * 1000 := by
    simp only [Scf.iv, Scalar.muli, IntOp.muli, BitVec.toNat_mul, BitVec.toNat_add, BitVec.toNat_ofNat]
    omega
  rw [body_eq]
  iintro HS HQ
  rw [show 200 * (r.val + 1) = r.val * 200 + 184 + 16 by omega, Nat.mul_comm 200 r.val]
  iapply (wp_winStep d L Dt Wt It Ut hI (jo := 0) hr (by omega) (by omega) (by omega) ((k0_off3_eq r).trans (by rw [Nat.mul_comm]; rfl))
    (fun v h => (k0_chk1.eq_1 v).mpr ⟨h, h⟩) h3 hv) $$ HS; iintro HS
  iapply (wp_winStep d L Dt Wt It Ut hI (jo := 16) hr (by omega) (by omega) (by omega) ((k0_off4_eq r).trans (by rw [Nat.mul_comm]))
    (fun v h => (k0_chk2.eq_1 v).mpr ⟨h, h⟩) h3 hv) $$ HS; iintro HS
  iapply (wp_winStep d L Dt Wt It Ut hI (jo := 32) hr (by omega) (by omega) (by omega) ((k0_off5_eq r).trans (by rw [Nat.mul_comm]))
    (fun v h => (k0_chk3.eq_1 v).mpr ⟨h, h⟩) h3 hv) $$ HS; iintro HS
  iapply (wp_winStep d L Dt Wt It Ut hI (jo := 48) hr (by omega) (by omega) (by omega) ((k0_off6_eq r).trans (by rw [Nat.mul_comm]))
    (fun v h => (k0_chk4.eq_1 v).mpr ⟨h, h⟩) h3 hv) $$ HS; iintro HS
  iapply (wp_winStep d L Dt Wt It Ut hI (jo := 64) hr (by omega) (by omega) (by omega) ((k0_off7_eq r).trans (by rw [Nat.mul_comm]))
    (fun v h => (k0_chk5.eq_1 v).mpr ⟨h, h⟩) h3 hv) $$ HS; iintro HS
  iapply (wp_winStep d L Dt Wt It Ut hI (jo := 80) hr (by omega) (by omega) (by omega) ((k0_off8_eq r).trans (by rw [Nat.mul_comm]))
    (fun v h => (k0_chk6.eq_1 v).mpr ⟨h, h⟩) h3 hv) $$ HS; iintro HS
  iapply (wp_winStep d L Dt Wt It Ut hI (jo := 96) hr (by omega) (by omega) (by omega) ((k0_off9_eq r).trans (by rw [Nat.mul_comm]))
    (fun v h => (k0_chk7.eq_1 v).mpr ⟨h, h⟩) h3 hv) $$ HS; iintro HS
  iapply (wp_winStep d L Dt Wt It Ut hI (jo := 112) hr (by omega) (by omega) (by omega) ((k0_off10_eq r).trans (by rw [Nat.mul_comm]))
    (fun v h => (k0_chk8.eq_1 v).mpr ⟨h, h⟩) h3 hv) $$ HS; iintro HS
  iapply (wp_winStep d L Dt Wt It Ut hI (jo := 128) hr (by omega) (by omega) (by omega) ((k0_off11_eq r).trans (by rw [Nat.mul_comm]))
    (fun v h => (k0_chk9.eq_1 v).mpr ⟨h, h⟩) h3 hv) $$ HS; iintro HS
  iapply (wp_winStep d L Dt Wt It Ut hI (jo := 144) hr (by omega) (by omega) (by omega) ((k0_off12_eq r).trans (by rw [Nat.mul_comm]))
    (fun v h => (k0_chk10.eq_1 v).mpr ⟨h, h⟩) h3 hv) $$ HS; iintro HS
  iapply (wp_winStep d L Dt Wt It Ut hI (jo := 160) hr (by omega) (by omega) (by omega) ((k0_off13_eq r).trans (by rw [Nat.mul_comm]))
    (fun v h => (k0_chk11.eq_1 v).mpr ⟨h, h⟩) h3 hv) $$ HS; iintro HS
  iapply (wp_winStep d L Dt Wt It Ut hI (jo := 176) hr (by omega) (by omega) (by omega) ((k0_off14_eq r).trans (by rw [Nat.mul_comm]))
    (fun v h => (k0_chk12.eq_1 v).mpr ⟨h, h⟩) h3 hv) $$ HS; iintro HS
  iapply (wp_winStep d L Dt Wt It Ut hI (jo := 184) hr (by omega) (by omega) (by omega) ((k0_off15_eq r).trans (by rw [Nat.mul_comm]))
    (fun v h => (k0_chk13.eq_1 v).mpr ⟨h, h⟩) h3 hv) $$ HS; iintro HS
  sl_step
  iapply HQ; iexact HS

end Row

/-! ## One chunk -/

section Chunk

variable (d : Dev nD) (L : grid0.Coords) (q : PosShare TreeShare)
  (fD fW : Vec F S16384000 .f32) (fI : Vec F S3276800 .i32) (fU : Vec F S3276800 .f32)

/-- The tile's shares of the four arrays it reads, whole. -/
abbrev ins : sProp 𝕄 :=
  iprop(((aD).view.loc (V d (cV L) (jV L)) ↦{q} fD) ∗ ((aI).view.loc (V d (cV L) (jV L)) ↦{q} fI)
    ∗ ((aU).view.loc (V d (cV L) (jV L)) ↦{q} fU) ∗ ((aW).view.loc (V d (cV L) (jV L)) ↦{q} fW))

/-- The tile's five transfer counters at zero. -/
abbrev sems0 : sProp 𝕄 :=
  iprop(semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0
    ∗ semVal (V d (cV L) (jV L), SemLoc.dma cc0_scoped4.sem) 0)

/-- Chunk `t` of the result, as the tile's write-out addresses it. -/
abbrev outS (L : grid0.Coords) (t : Fin k0_t1_loop.trips) : Memref sig .scVector .hbm S16000 .f32 :=
  (aO).slice (Rect.unit (s := S16384000) (k0_off1 L t) S16000.size (k0_off1_inb L t)) (fun _ => rfl)

/-- The first of the sixteen rows of the tile's chunk `t`. -/
abbrev row (L : grid0.Coords) (t : ℕ) : ℕ := 1024 * (L 1).val + 512 * (L 0).val + 16 * t

/-- What the chunk's copy of the data lands, element by element. -/
theorem rd_data (f : Vec F S16384000 .f32) (t : Fin k0_t1_loop.trips) {l : ℕ} (hl : l < 16000) :
    rd (n := 16000) (((aD).slice (Rect.unit (s := S16384000) (k0_off1 L t) S16000.size (k0_off1_inb L t)) (fun _ => rfl)).view.read (Elt F) f) l
      = rd f (1000 * row L t.val + l) := by
  refine (rd_eq (n := 16384000) f (((aD).slice (Rect.unit (s := S16384000) (k0_off1 L t) S16000.size (k0_off1_inb L t)) (fun _ => rfl)).view.emb
    (ValueIdx.ix1 (Fin.ofNat 16000 l))) ?_).symm
  show _ = k0_off1 L t 0 + 1 * (l % 16000)
  rw [k0_off1_eq, Nat.mod_eq_of_lt hl]
  show _ = 1024000 * (L 1).val + 512000 * (L 0).val + 16000 * t.val + 1 * l
  unfold row
  omega

/-- Slot `k` of the chunk, by its number in the whole array. -/
theorem slot_val (t : Fin k0_t1_loop.trips) {k : ℕ} (hk : k < 3200) : 200 * row L t.val + k = k0_off2 L t 0 + 1 * (k % 3200) := by
  rw [k0_off2_eq, Nat.mod_eq_of_lt hk]
  show _ = 204800 * (L 1).val + 102400 * (L 0).val + 3200 * t.val + 1 * k
  unfold row
  omega

/-- What the chunk's copy of the columns lands, element by element. -/
theorem rd_cols (f : Vec F S3276800 .i32) (t : Fin k0_t1_loop.trips) {k : ℕ} (hk : k < 3200) :
    rd (n := 3200) (((aI).slice (Rect.unit (s := S3276800) (k0_off2 L t) S3200.size (k0_off2_inb L t)) (fun _ => rfl)).view.read (Elt F) f) k
      = rd f (200 * row L t.val + k) :=
  (rd_eq (n := 3276800) f (((aI).slice (Rect.unit (s := S3276800) (k0_off2 L t) S3200.size (k0_off2_inb L t)) (fun _ => rfl)).view.emb
    (ValueIdx.ix1 (Fin.ofNat 3200 k))) (slot_val L t hk)).symm

/-- The same of the updates. -/
theorem rd_upds (f : Vec F S3276800 .f32) (t : Fin k0_t1_loop.trips) {k : ℕ} (hk : k < 3200) :
    rd (n := 3200) (((aU).slice (Rect.unit (s := S3276800) (k0_off2 L t) S3200.size (k0_off2_inb L t)) (fun _ => rfl)).view.read (Elt F) f) k
      = rd f (200 * row L t.val + k) :=
  (rd_eq (n := 3276800) f (((aU).slice (Rect.unit (s := S3276800) (k0_off2 L t) S3200.size (k0_off2_inb L t)) (fun _ => rfl)).view.emb
    (ValueIdx.ix1 (Fin.ofNat 3200 k))) (slot_val L t hk)).symm

/-- The chunk's part of the result, once the rows are written out, is the whole result's. -/
theorem chunk_eq {Dt Wt : Rows F} {It : Vec F S3200 .i32} {Ut : Vec F S3200 .f32} (t : Fin k0_t1_loop.trips) (g : Vec F S16384000 .f32)
    (hD : ∀ l, l < 16000 → rd Dt l = rd fD (1000 * row L t.val + l)) (hW : ∀ l, l < 16000 → rd Wt l = rd fW (1000 * row L t.val + l))
    (hI : ∀ k, k < 3200 → rd It k = rd fI (200 * row L t.val + k)) (hU : ∀ k, k < 3200 → rd Ut k = rd fU (200 * row L t.val + k)) :
    ∀ p ∈ (outS L t).view.set, (outS L t).view.writes (Elt F) g [⟨Rect.whole S16000, rows Dt Wt It Ut 3200⟩] p = out fD fW fI fU p := by
  intro p hp
  obtain ⟨i, -, rfl⟩ := Finset.mem_map.mp hp
  have ht : t.val < 32 := Nat.lt_of_lt_of_le t.isLt k0_t1_abs.2.1
  have h0 : (L 0).val < 2 := (L 0).isLt
  have h1 : (L 1).val < 16 := (L 1).isLt
  have he : (outS L t).view.emb i = ((outS L t).view.slice (Rect.whole S16000)).emb i :=
    congrArg (outS L t).view.emb (funext fun a => Fin.ext (show (i a).val = 0 + 1 * (i a).val by omega))
  rw [View.writes_singleton, he]
  refine (View.write_emb_of_mem (v := (outS L t).view.slice (Rect.whole S16000)) g (rows Dt Wt It Ut 3200) (Finset.mem_univ i)).trans ?_
  rw [← he]
  refine (cast_eq _ _).trans (rows_out fD fW fI fU (R := row L t.val) (by unfold row; omega) Dt Wt It Ut hD hW hI hU i _ ?_)
  show k0_off1 L t 0 + 1 * (i 0).val = _
  rw [k0_off1_eq]
  show 1024000 * (L 1).val + 512000 * (L 0).val + 16000 * t.val + 1 * (i 0).val = _
  unfold row
  omega

set_option maxHeartbeats 4000000 in
/-- One chunk: the four copies in, the sixteen rows, the copy out. The chunk's part of the result ends at the whole result's elements,
    whatever it held. -/
theorem wp_chunk (O : CellTallies nD τ sig (HIx 1)) (W : Waits sig (HIx 1)) (hI : ∀ i, (fI i).toNat < 1000)
    {v3 : IVec S16 32} (h3 : ∀ k : Fin 16, v3 (Shape.ofLane k) = BitVec.ofNat 32 k.val) (t : Fin k0_t1_loop.trips) (g : Vec F S16384000 .f32) {Q : Unit → sProp 𝕄} :
    iprop(Transfers.MayWaits (V d (cV L) (jV L)) (default : HIx 1) O ∗ ins d L q fD fW fI fU
        ∗ ((outS L t).view.loc (V d (cV L) (jV L)) ↦[(outS L t).view.set]{fullShare} g)
        ∗ (∃ f w i u, scr d L f w i u) ∗ sems0 d L
        ∗ ∃ W', ⌜∀ p ∈ W', p ∈ W ∨ p.2 = none⌝ ∗ owes (V d (cV L) (jV L)) O W')
      ⊢ iprop((iprop(ins d L q fD fW fI fU
            ∗ ((outS L t).view.loc (V d (cV L) (jV L)) ↦[(outS L t).view.set]{fullShare} out fD fW fI fU)
            ∗ (∃ f w i u, scr d L f w i u) ∗ sems0 d L
            ∗ ∃ W', ⌜∀ p ∈ W', p ∈ W ∨ p.2 = none⌝ ∗ owes (V d (cV L) (jV L)) O W') -∗ Q ())
        -∗ wp frame (wpE (defs₀ (F := F)) 𝒱₀ (V d (cV L) (jV L)) none) Set.univ
          (k0_t1_body (F := F) L aD (Memref.isWhole_whole _) aI (Memref.isWhole_whole _) aU (Memref.isWhole_whole _) aW (Memref.isWhole_whole _)
            aO (Memref.isWhole_whole _) bD (Memref.isWhole_whole _) bW (Memref.isWhole_whole _) bI (Memref.isWhole_whole _) bU (Memref.isWhole_whole _)
            cc0_scoped0 cc0_scoped1 cc0_scoped2 cc0_scoped3 cc0_scoped4 v3 t ()) Q) := by
  unfold k0_t1_body
  iintro ⟨Hmw, ⟨HaD, HaI, HaU, HaW⟩, HaO, ⟨%f, %w, %i, %u, HD, HW, HI, HU⟩, ⟨Hs0, Hs1, Hs2, Hs3, Hs4⟩, %W', %hW', HO⟩ HQ
  ihave HD' := (Entails.of_eq (show ((V d (cV L) (jV L)).loc cc0_scratch0 ↦{fullShare} f : sProp 𝕄) = (bD).view.loc (V d (cV L) (jV L)) ↦{fullShare} f from rfl)) $$ HD
  ihave HW' := (Entails.of_eq (show ((V d (cV L) (jV L)).loc cc0_scratch1 ↦{fullShare} w : sProp 𝕄) = (bW).view.loc (V d (cV L) (jV L)) ↦{fullShare} w from rfl)) $$ HW
  ihave HI' := (Entails.of_eq (show ((V d (cV L) (jV L)).loc cc0_scratch2 ↦{fullShare} i : sProp 𝕄) = (bI).view.loc (V d (cV L) (jV L)) ↦{fullShare} i from rfl)) $$ HI
  ihave HU' := (Entails.of_eq (show ((V d (cV L) (jV L)).loc cc0_scratch3 ↦{fullShare} u : sProp 𝕄) = (bU).view.loc (V d (cV L) (jV L)) ↦{fullShare} u from rfl)) $$ HU
  sl_exec (disch := first | exact View.amount_pos _ _ (show 0 < S16000.numel by decide) | exact View.amount_pos _ _ (show 0 < S3200.numel by decide))
  have hD : ∀ l, l < 16000 → rd (n := 16000) (wp_chunk.sl.dma0 L fD t) l = rd fD (1000 * row L t.val + l) := fun l hl => rd_data L fD t hl
  have hW : ∀ l, l < 16000 → rd (n := 16000) (wp_chunk.sl.dma0_1 L fW t) l = rd fW (1000 * row L t.val + l) := fun l hl => rd_data L fW t hl
  have hC : ∀ k, k < 3200 → rd (n := 3200) (wp_chunk.sl.dma0_2 L fI t) k = rd fI (200 * row L t.val + k) := fun k hk => rd_cols L fI t hk
  have hU : ∀ k, k < 3200 → rd (n := 3200) (wp_chunk.sl.dma0_3 L fU t) k = rd fU (200 * row L t.val + k) := fun k hk => rd_upds L fU t hk
  have hI' : ∀ i, (wp_chunk.sl.dma0_2 L fI t i).toNat < 1000 := fun i => hI _
  generalize wp_chunk.sl.dma0 L fD t = Dt at *
  generalize wp_chunk.sl.dma0_1 L fW t = Wt at *
  generalize wp_chunk.sl.dma0_2 L fI t = It at *
  generalize wp_chunk.sl.dma0_3 L fU t = Ut at *
  ihave HD := (Entails.of_eq (show ((bD).view.loc (V d (cV L) (jV L)) ↦{fullShare} View.write (Elt F) (bD).view f Dt Finset.univ : sProp 𝕄)
    = (V d (cV L) (jV L)).loc cc0_scratch0 ↦{fullShare} rows Dt Wt It Ut 0 by rw [rows_zero]; exact congrArg _ (View.write_whole_univ _ _ _))) $$ HD'
  ihave HW := (Entails.of_eq (show ((bW).view.loc (V d (cV L) (jV L)) ↦{fullShare} View.write (Elt F) (bW).view w Wt Finset.univ : sProp 𝕄)
    = (V d (cV L) (jV L)).loc cc0_scratch1 ↦{fullShare} Wt from congrArg _ (View.write_whole_univ _ _ _))) $$ HW'
  ihave HI := (Entails.of_eq (show ((bI).view.loc (V d (cV L) (jV L)) ↦{fullShare} View.write (Elt F) (bI).view i It Finset.univ : sProp 𝕄)
    = (V d (cV L) (jV L)).loc cc0_scratch2 ↦{fullShare} It from congrArg _ (View.write_whole_univ _ _ _))) $$ HI'
  ihave HU := (Entails.of_eq (show ((bU).view.loc (V d (cV L) (jV L)) ↦{fullShare} View.write (Elt F) (bU).view u Ut Finset.univ : sProp 𝕄)
    = (V d (cV L) (jV L)).loc cc0_scratch3 ↦{fullShare} Ut from congrArg _ (View.write_whole_univ _ _ _))) $$ HU'
  sl_for (fun (r : Nat) (_ : Unit) => scr d L (rows Dt Wt It Ut (200 * r)) Wt It Ut) $$ [HD HW HI HU]
  case region =>
    intro r _
    iintro HS
    iapply (wp_row d L Dt Wt It Ut hI' h3 r) $$ HS
    iintro HS; iexact HS
  · isplitl [HD]; · iexact HD
    isplitl [HW]; · iexact HW
    isplitl [HI]; · iexact HI
    iexact HU
  iintro %_ ⟨HD, HW, HI, HU⟩
  ihave HD' := (Entails.of_eq (show ((V d (cV L) (jV L)).loc cc0_scratch0 ↦{fullShare} rows Dt Wt It Ut (200 * k0_t2_loop.trips) : sProp 𝕄)
    = (bD).view.loc (V d (cV L) (jV L)) ↦{fullShare} rows Dt Wt It Ut 3200 by rw [show 200 * k0_t2_loop.trips = 3200 by decide +kernel])) $$ HD
  sl_exec (disch := first | exact View.amount_pos _ _ (show 0 < S16000.numel by decide) | exact View.amount_pos _ _ (show 0 < S3200.numel by decide))
  sl_step
  ihave HaO' := (Entails.of_eq (pointsTo_congr (chunk_eq L fD fW fI fU t g hD hW hC hU))) $$ HaO
  iapply HQ
  isplitl [HaD HaI HaU HaW]
  · isplitl [HaD]; · iexact HaD
    isplitl [HaI]; · iexact HaI
    isplitl [HaU]; · iexact HaU
    iexact HaW
  isplitl [HaO']; · iexact HaO'
  isplitl [HD' HW HI HU]
  · iexists _; iexists _; iexists _; iexists _
    isplitl [HD']; · iexact HD'
    isplitl [HW]; · iexact HW
    isplitl [HI]; · iexact HI
    iexact HU
  isplitl [Hs0 Hs1 Hs2 Hs3 Hs4]
  · isplitl [Hs0]; · iexact Hs0
    isplitl [Hs1]; · iexact Hs1
    isplitl [Hs2]; · iexact Hs2
    isplitl [Hs3]; · iexact Hs3
    iexact Hs4
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The tile's elements of the result -/

/-- The `n` elements of the result from element `a`. -/
def span (a n : ℕ) : Finset S16384000.Idx := Finset.univ.filter fun p => a ≤ (p 0).val ∧ (p 0).val < a + n

theorem mem_span {a n : ℕ} {p : S16384000.Idx} : p ∈ span a n ↔ a ≤ (p 0).val ∧ (p 0).val < a + n := by simp [span]

/-- Chunk `t` of the tile is the sixteen thousand elements from its first row's first. -/
theorem set_outS (t : Fin k0_t1_loop.trips) : (outS L t).view.set = span (1000 * row L t.val) 16000 := by
  have h : (outS L t).view.set = (Rect.unit (s := S16384000) (k0_off1 L t) S16000.size (k0_off1_inb L t)).set := View.set_slice_whole _ _
  rw [h]
  ext p
  have e : k0_off1 L t 0 = 1000 * row L t.val := by
    rw [k0_off1_eq]
    show 1024000 * (L 1).val + 512000 * (L 0).val + 16000 * t.val = _
    unfold row
    omega
  rw [Rect.mem_set_unit, mem_span, ← e]
  exact ⟨fun h => h 0, fun h a => by obtain rfl : a = 0 := Subsingleton.elim _ _; exact h⟩

/-- The tile's part of the result when its first `t` chunks are written: the whole result's there, what the array held elsewhere. -/
def upto (f0 : Vec F S16384000 .f32) (t : ℕ) : Vec F S16384000 .f32 :=
  fun p => if (p 0).val < 1000 * row L t then out fD fW fI fU p else f0 p

/-- The tile's elements of the result at contents `f`. -/
abbrev part (f : Vec F S16384000 .f32) : sProp 𝕄 := (aO).view.loc (V d (cV L) (jV L)) ↦[span (1000 * row L 0) 512000]{fullShare} f

/-- Before the first chunk, what the array held; -/
theorem part_zero (f0 : Vec F S16384000 .f32) : (part d L f0 : sProp 𝕄) = part d L (upto L fD fW fI fU f0 0) :=
  pointsTo_congr fun p hp => by
    have h := mem_span.mp hp
    unfold upto
    rw [if_neg (by omega)]

/-- after the last, the whole result's. -/
theorem part_last (f0 : Vec F S16384000 .f32) : (part d L (upto L fD fW fI fU f0 32) : sProp 𝕄) = part d L (out fD fW fI fU) :=
  pointsTo_congr fun p hp => by
    have h := mem_span.mp hp
    unfold upto
    rw [if_pos (by unfold row at *; omega)]

/-- A chunk's elements are the tile's. -/
theorem chunk_sub (t : Fin k0_t1_loop.trips) : (outS L t).view.set ⊆ span (1000 * row L 0) 512000 := by
  have ht : t.val < 32 := Nat.lt_of_lt_of_le t.isLt k0_t1_abs.2.1
  intro p hp
  rw [set_outS, mem_span] at hp
  rw [mem_span]
  unfold row at *
  omega

/-- The tile's elements, a chunk apart from the others. -/
theorem part_split (t : Fin k0_t1_loop.trips) (f : Vec F S16384000 .f32) :
    (part d L f : sProp 𝕄) ⊣⊢ iprop(((outS L t).view.loc (V d (cV L) (jV L)) ↦[(outS L t).view.set]{fullShare} f)
      ∗ (aO).view.loc (V d (cV L) (jV L)) ↦[span (1000 * row L 0) 512000 \ (outS L t).view.set]{fullShare} f) :=
  pointsTo_split_subset (ℓ := (aO).view.loc (V d (cV L) (jV L))) (chunk_sub L t)

/-- On chunk `t` the result so far, one chunk on, is the whole result's; -/
theorem upto_chunk (f0 : Vec F S16384000 .f32) (t : Fin k0_t1_loop.trips) :
    ∀ p ∈ (outS L t).view.set, out fD fW fI fU p = upto L fD fW fI fU f0 (t.val + 1) p := by
  intro p hp
  rw [set_outS, mem_span] at hp
  unfold upto
  rw [if_pos (by unfold row at *; omega)]

/-- off it, unchanged. -/
theorem upto_rest (f0 : Vec F S16384000 .f32) (t : Fin k0_t1_loop.trips) :
    ∀ p ∈ span (1000 * row L 0) 512000 \ (outS L t).view.set, upto L fD fW fI fU f0 t.val p = upto L fD fW fI fU f0 (t.val + 1) p := by
  intro p hp
  rw [Finset.mem_sdiff, set_outS, mem_span, mem_span] at hp
  unfold upto
  refine if_congr ?_ rfl rfl
  unfold row at *
  omega

/-! ## The tile -/

/-- The five counters. -/
def tileSems : Finset (SemLoc sig) :=
  {.dma cc0_scoped0.sem, .dma cc0_scoped1.sem, .dma cc0_scoped2.sem, .dma cc0_scoped3.sem, .dma cc0_scoped4.sem}

/-- The four scratch buffers. -/
def tileBufs : Finset (Ref sig .scVector) := {cc0_scratch0, cc0_scratch1, cc0_scratch2, cc0_scratch3}

/-- The five counters are among the tile's own at zero. -/
theorem own_sems : ∃ R : sProp 𝕄, (ownSems0 (V d (cV L) (jV L)) : sProp 𝕄) = iprop(sems0 d L ∗ R) := by
  have hsub : tileSems.map ⟨fun x => ((V d (cV L) (jV L), x) : GSem nD τ sig), fun _ _ h => (Prod.mk.inj h).2⟩ ⊆ ownCells (V d (cV L) (jV L)) := by
    intro g hg
    obtain ⟨x, hx, rfl⟩ := Finset.mem_map.mp hg
    have hs : ∀ x ∈ tileSems, x.isScoped .scVector = true := by decide
    exact mem_ownCells.mpr ⟨rfl, hs x hx⟩
  refine ⟨_, (BI.bigSep_sdiff_split hsub).trans (congrArg (fun A : sProp 𝕄 => iprop(A ∗ _)) ?_)⟩
  rw [BI.bigSep_map]
  unfold tileSems
  rw [SparseCore.bigSep_insert' (by decide), SparseCore.bigSep_insert' (by decide), SparseCore.bigSep_insert' (by decide),
    SparseCore.bigSep_insert' (by decide), bigSep_singleton]
  rfl

/-- The four scratch buffers are among the tile's own. -/
theorem own_bufs : ∃ R : sProp 𝕄, (ownBufs (V d (cV L) (jV L)) : sProp 𝕄)
    = iprop(((∃ f, (V d (cV L) (jV L)).loc cc0_scratch0 ↦{fullShare} f) ∗ (∃ f, (V d (cV L) (jV L)).loc cc0_scratch1 ↦{fullShare} f)
        ∗ (∃ f, (V d (cV L) (jV L)).loc cc0_scratch2 ↦{fullShare} f) ∗ (∃ f, (V d (cV L) (jV L)).loc cc0_scratch3 ↦{fullShare} f)) ∗ R) := by
  have hsub : tileBufs.map ⟨(Proc.scVector (cV L) (jV L)).devRef, Proc.devRef_injective _⟩ ⊆ ownRefs (τ := τ) (sig := sig) (.scVector (cV L) (jV L)) := by
    intro b hb
    obtain ⟨x, hx, rfl⟩ := Finset.mem_map.mp hb
    refine SparseCore.Cfg.mem_ownRefs_of_owner ?_
    unfold tileBufs at hx
    simp only [Finset.mem_insert, Finset.mem_singleton] at hx
    rcases hx with rfl | rfl | rfl | rfl <;> rfl
  refine ⟨_, (BI.bigSep_sdiff_split hsub).trans (congrArg (fun A : sProp 𝕄 => iprop(A ∗ _)) ?_)⟩
  rw [BI.bigSep_map]
  unfold tileBufs
  rw [SparseCore.bigSep_insert' (show cc0_scratch0 ∉ ({cc0_scratch1, cc0_scratch2, cc0_scratch3} : Finset (Ref sig .scVector)) by decide),
    SparseCore.bigSep_insert' (show cc0_scratch1 ∉ ({cc0_scratch2, cc0_scratch3} : Finset (Ref sig .scVector)) by decide),
    SparseCore.bigSep_insert' (show cc0_scratch2 ∉ ({cc0_scratch3} : Finset (Ref sig .scVector)) by decide), bigSep_singleton]
  rfl

/-- Before chunk `t`: the four arrays, the tile's part of the result written so far, the scratch buffers at whatever they hold, the
    counters at zero. -/
def inv (f0 : Vec F S16384000 .f32) (O : CellTallies nD τ sig (HIx 1)) (W : Waits sig (HIx 1)) (t : ℕ) (_ : Unit) : sProp 𝕄 :=
  iprop(Transfers.MayWaits (V d (cV L) (jV L)) (default : HIx 1) O ∗ ins d L q fD fW fI fU ∗ part d L (upto L fD fW fI fU f0 t)
    ∗ (∃ f w i u, scr d L f w i u) ∗ sems0 d L ∗ ∃ W', ⌜∀ p ∈ W', p ∈ W ∨ p.2 = none⌝ ∗ owes (V d (cV L) (jV L)) O W')

set_option maxHeartbeats 4000000 in
/-- The tile: from its shares of the data, the winners' table, the columns and the updates, and its part of the result at whatever it
    holds, to its part of the result at the whole result's elements. -/
theorem tile_body (hF : (K (F := F)).Facts) (hI : ∀ i, (fI i).toNat < 1000) (f0 : Vec F S16384000 .f32)
    (O : CellTallies nD τ sig (HIx 1)) (W : Waits sig (HIx 1)) (hO : ∀ g, O g none = 0) :
    iprop(levAts (K (F := F)).L (K (F := F)).lev ∗ emp ∗ (ins d L q fD fW fI fU ∗ part d L f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__apply_body L aD (Memref.isWhole_whole _) aI (Memref.isWhole_whole _) aU (Memref.isWhole_whole _) aW (Memref.isWhole_whole _)
            aO (Memref.isWhole_whole _) bD (Memref.isWhole_whole _) bW (Memref.isWhole_whole _) bI (Memref.isWhole_whole _) bU (Memref.isWhole_whole _)
            cc0_scoped0 cc0_scoped1 cc0_scoped2 cc0_scoped3 cc0_scoped4)
          fun _ => iprop((ins d L q fD fW fI fU ∗ part d L (out fD fW fI fU))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h3 : ∀ k : Fin 16, (iota .scVector S16 32 [0] iota_S16_d0_w32_scVector : IVec S16 32) (Shape.ofLane k) = BitVec.ofNat 32 k.val := by decide
  obtain ⟨Rs, hRs⟩ := own_sems (F := F) d L
  obtain ⟨Rb, hRb⟩ := own_bufs (F := F) d L
  simp only [cc0__apply_body_eq_skeleton]
  unfold cc0__apply_body_skel
  rw [(K (F := F)).scopedBufs_V hF d (cV L) (jV L), SparseCore.Cfg.scopedSems0_V (Val := Elt F) d (cV L) (jV L), hRs, hRb, part_zero d L fD fW fI fU f0]
  iintro ⟨#Hlv, -, ⟨Hin, Hpart⟩, ⟨⟨⟨%f, HD⟩, ⟨%w, HW⟩, ⟨%i, HI⟩, ⟨%u, HU⟩⟩, HRb⟩, ⟨Hsems, HRs⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  sl_for (inv d L q fD fW fI fU f0 O W) $$ [Hmw Hin Hpart HD HW HI HU Hsems HO]
  case region =>
    intro t _
    unfold inv
    iintro ⟨#Hmw, Hin, Hpart, Hscr, Hsems, HO⟩
    ihave Hp := (part_split d L t _).1 $$ Hpart
    icases Hp with ⟨Hc, Hr⟩
    iapply (wp_chunk d L q fD fW fI fU O W hI h3 t _) $$ [Hin Hc Hscr Hsems HO]
    · isplitr; · iexact Hmw
      isplitl [Hin]; · iexact Hin
      isplitl [Hc]; · iexact Hc
      isplitl [Hscr]; · iexact Hscr
      isplitl [Hsems]; · iexact Hsems
      iexact HO
    iintro ⟨Hin, Hc, Hscr, Hsems, HO⟩
    isplitr; · iexact Hmw
    isplitl [Hin]; · iexact Hin
    isplitl [Hc Hr]
    · iapply (part_split d L t _).2
      isplitl [Hc]
      · iapply (Entails.of_eq (pointsTo_congr (upto_chunk L fD fW fI fU f0 t))); iexact Hc
      · iapply (Entails.of_eq (pointsTo_congr (upto_rest L fD fW fI fU f0 t))); iexact Hr
    isplitl [Hscr]; · iexact Hscr
    isplitl [Hsems]; · iexact Hsems
    iexact HO
  · unfold inv
    isplitl [Hmw]; · iexact Hmw
    isplitl [Hin]; · iexact Hin
    isplitl [Hpart]; · iexact Hpart
    isplitl [HD HW HI HU]
    · iexists _; iexists _; iexists _; iexists _
      isplitl [HD]; · iexact HD
      isplitl [HW]; · iexact HW
      isplitl [HI]; · iexact HI
      iexact HU
    isplitl [Hsems]; · iexact Hsems
    iexists W; isplitr
    · ipureintro; exact fun p hp => .inl hp
    · iexact HO
  iintro %_ HI
  rw [show Scf.trips k0_t1_loop.lb k0_t1_loop.ub k0_t1_loop.st = 32 by decide +kernel]
  unfold inv
  icases HI with ⟨-, Hin, Hpart, ⟨%f', %w', %i', %u', HD, HW, HI, HU⟩, Hsems, HO⟩
  sl_exec
  sl_step
  isplitl [Hin Hpart]
  · isplitl [Hin]; · iexact Hin
    iapply (Entails.of_eq (part_last d L fD fW fI fU f0)); iexact Hpart
  isplitl [HD HW HI HU HRb]
  · isplitl [HD HW HI HU]
    · isplitl [HD]; · iexists _; iexact HD
      isplitl [HW]; · iexists _; iexact HW
      isplitl [HI]; · iexists _; iexact HI
      iexists _; iexact HU
    · iexact HRb
  isplitl [Hsems HRs]
  · isplitl [Hsems] <;> iassumption
  iexact HO

end Chunk

end Cert.Proof.OnKernelIdeal

end
-- ==== Proof.KernelIdeal.Deal.lean ====
module

public import proofs.«01_k».proof.Proof.KernelIdeal.Tile
public import Idealize.ShloMosaic.Lib.ShareLeaves
public import Idealize.ShloMosaic.Lib.StableHlo.Run
public import Idealize.ShloMosaic.Lib.Pipeline.Frame

/-!
  The host's side: its arrays at each point of the program, and the call's operands and result dealt to the thirty-two tiles. Each tile gets
  a thirty-second share of the four operands, whole, and its own five hundred and twelve rows of the result.
-/

@[expose] public section

noncomputable section

namespace Cert.Proof.OnKernelIdeal

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (ucRefs unscopedBufs_held sub_ucRefs)
open Idealize.ShloMosaic.StableHlo (held after)
open Cert.Window

variable {F : FTy → Type}

local notation "𝕄" => MT nD τ sig (HIx 1) (Elt F) ℕ UU ℕ

/-! ## The operands dealt to the tiles -/

abbrev rD : DevRef τ sig := Proc.devRef .tc (main_v25 : Ref sig .tc)
abbrev rI : DevRef τ sig := Proc.devRef .tc (main_v26 : Ref sig .tc)
abbrev rU : DevRef τ sig := Proc.devRef .tc (main_v27 : Ref sig .tc)
abbrev rW : DevRef τ sig := Proc.devRef .tc (main_v28 : Ref sig .tc)
abbrev rO : DevRef τ sig := Proc.devRef .tc (main_v29 : Ref sig .tc)

/-- The coordinates of tile `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- The same, of the two SparseCores' sixteen tiles. -/
abbrev at' (c : Fin 2) (s : Fin 16) : grid0.Coords := coords c s

/-- The tiles numbered through, one SparseCore after the other. -/
def num : Fin 2 × Fin 16 ≃ Fin (2 ^ 5) := finProdFinEquiv.trans (finCongr (by decide))

/-- A tile's share of each operand. -/
abbrev sh (c : Fin 2) (s : Fin 16) : PosShare TreeShare := leaf 5 fullShare (num (c, s))

/-- A buffer held whole is the tiles' shares of it. -/
theorem shares (ℓ : Loc nD τ sig) (f : Buf (Elt F) ℓ) :
    (ℓ ↦{fullShare} f : sProp 𝕄) = bigSep Finset.univ fun c : Fin 2 => bigSep Finset.univ fun s : Fin 16 => ℓ ↦{sh c s} f := by
  rw [pointsTo_leaves Finset.univ f 5 fullShare, bigSep_univ_equiv num, bigSep_univ_prod]

/-- A tile's span of the result. -/
abbrev spanOf (x : Fin 2 × Fin 16) : Finset S16384000.Idx := span (1000 * row (at' x.1 x.2) 0) 512000

theorem row_at (c : Fin 2) (s : Fin 16) : row (at' c s) 0 = 1024 * s.val + 512 * c.val := by
  unfold row; rfl

/-- Two tiles' spans are disjoint. -/
theorem span_disjoint : ∀ x ∈ (Finset.univ : Finset (Fin 2 × Fin 16)), ∀ y ∈ (Finset.univ : Finset (Fin 2 × Fin 16)), x ≠ y →
    Disjoint (spanOf x) (spanOf y) := by
  rintro ⟨c, s⟩ - ⟨c', s'⟩ - h
  rw [Finset.disjoint_left]
  intro p hp hp'
  rw [mem_span, row_at] at hp hp'
  dsimp only at hp hp'
  apply h
  have hc := c.isLt
  have hc' := c'.isLt
  have e1 : c = c' := Fin.ext (by omega)
  have e2 : s = s' := Fin.ext (by omega)
  rw [e1, e2]

/-- The spans together are the whole result. -/
theorem span_cover : (Finset.univ : Finset (Fin 2 × Fin 16)).biUnion spanOf = Finset.univ := by
  ext p
  have hp : (p 0).val < 16384000 := (p 0).isLt
  simp only [Finset.mem_biUnion, Finset.mem_univ, true_and, iff_true]
  refine ⟨(⟨(p 0).val / 512000 % 2, by omega⟩, ⟨(p 0).val / 1024000, by omega⟩), ?_⟩
  rw [mem_span, row_at]
  dsimp only
  omega

/-- The result held whole is the tiles' parts of it. -/
theorem parts (d : Dev nD) (f : Vec F S16384000 .f32) :
    ((d, rO) ↦{fullShare} f : sProp 𝕄) = bigSep Finset.univ fun c : Fin 2 => bigSep Finset.univ fun s : Fin 16 => part d (at' c s) f := by
  have h := pointsTo_biUnion (Ix := HIx 1) (Val := Elt F) (Name := ℕ) (U := UU) (Lvl := ℕ) (ℓ := (d, rO)) (q := fullShare) (f := f)
    Finset.univ spanOf span_disjoint
  rw [span_cover, bigSep_univ_prod] at h
  exact h

variable [FloatOps F]

/-- What one tile is dealt: its shares of the operands and its part of the result. -/
abbrev dealt (d : Dev nD) (fD fW : Vec F S16384000 .f32) (fI : IVec S3276800 32) (fU : Vec F S3276800 .f32) (f : Vec F S16384000 .f32) (c : Fin 2) (s : Fin 16) : sProp 𝕄 :=
  iprop(ins d (at' c s) (sh c s) fD fW fI fU ∗ part d (at' c s) f)

/-- The four operands and the result held whole are what the tiles are dealt. -/
theorem deal (d : Dev nD) (fD fW : Vec F S16384000 .f32) (fI : IVec S3276800 32) (fU : Vec F S3276800 .f32) (f : Vec F S16384000 .f32) :
    (bigSep Finset.univ fun c : Fin 2 => bigSep Finset.univ fun s : Fin 16 => (dealt d fD fW fI fU f c s : sProp 𝕄))
      = iprop((((d, rD) ↦{fullShare} fD) ∗ ((d, rI) ↦{fullShare} fI) ∗ ((d, rU) ↦{fullShare} fU) ∗ ((d, rW) ↦{fullShare} fW)) ∗ ((d, rO) ↦{fullShare} f)) := by
  simp only [dealt, ins, bigSep_sep']
  rw [parts d f, shares (d, rD) fD, shares (d, rI) fI, shares (d, rU) fU, shares (d, rW) fW]

/-! ## The host's operations -/

/-- The host's straight line before the call: the winners' table by a scatter, and the operands as vectors. -/
def line : List (HloOp τ sig (Elt F)) :=
  [StableHlo.nullary main_v0 (iotaInDim S16384 32 0),
    StableHlo.unary main_v0 main_v1 (broadcastInDim S16384x1 ![0] bcast_S16384_S16384x1_0 : (⟨S16384, .i32⟩ : BufTy).Contents (Elt F) → (⟨S16384x1, .i32⟩ : BufTy).Contents (Elt F)),
    StableHlo.nullary main_cst (constant S_ .f32 0x00000000#32),
    StableHlo.unary main_cst main_v2 (broadcastInDim S16384x200 ![] bcast_S_S16384x200 : (⟨S_, .f32⟩ : BufTy).Contents (Elt F) → (⟨S16384x200, .f32⟩ : BufTy).Contents (Elt F)),
    StableHlo.binary main_arg2 main_v2 main_v3 (mulf : (⟨S16384x200, .f32⟩ : BufTy).Contents (Elt F) → (⟨S16384x200, .f32⟩ : BufTy).Contents (Elt F) → (⟨S16384x200, .f32⟩ : BufTy).Contents (Elt F)),
    StableHlo.nullary main_v4 (sitofp .f32 (iotaInDim S16384x200 32 1)),
    StableHlo.binary main_v3 main_v4 main_v5 (addf : (⟨S16384x200, .f32⟩ : BufTy).Contents (Elt F) → (⟨S16384x200, .f32⟩ : BufTy).Contents (Elt F) → (⟨S16384x200, .f32⟩ : BufTy).Contents (Elt F)),
    StableHlo.nullary main_cst_0 (constant S_ .f32 0x00000000#32),
    StableHlo.unary main_cst_0 main_v6 (broadcastInDim S16384x1000 ![] bcast_S_S16384x1000 : (⟨S_, .f32⟩ : BufTy).Contents (Elt F) → (⟨S16384x1000, .f32⟩ : BufTy).Contents (Elt F)),
    StableHlo.binary main_arg0 main_v6 main_v7 (mulf : (⟨S16384x1000, .f32⟩ : BufTy).Contents (Elt F) → (⟨S16384x1000, .f32⟩ : BufTy).Contents (Elt F) → (⟨S16384x1000, .f32⟩ : BufTy).Contents (Elt F)),
    StableHlo.nullary main_cst_1 (constant S_ .f32 0x3F800000#32),
    StableHlo.unary main_cst_1 main_v8 (broadcastInDim S16384x1000 ![] bcast_S_S16384x1000 : (⟨S_, .f32⟩ : BufTy).Contents (Elt F) → (⟨S16384x1000, .f32⟩ : BufTy).Contents (Elt F)),
    StableHlo.binary main_v7 main_v8 main_v9 (subf : (⟨S16384x1000, .f32⟩ : BufTy).Contents (Elt F) → (⟨S16384x1000, .f32⟩ : BufTy).Contents (Elt F) → (⟨S16384x1000, .f32⟩ : BufTy).Contents (Elt F)),
    StableHlo.nullary main_c (constantI S_ 32 0#32),
    StableHlo.unary main_c main_v10 (broadcastInDim S16384x1 ![] bcast_S_S16384x1 : (⟨S_, .i32⟩ : BufTy).Contents (Elt F) → (⟨S16384x1, .i32⟩ : BufTy).Contents (Elt F)),
    StableHlo.binary main_v1 main_v10 main_v11 (cmpi .slt : (⟨S16384x1, .i32⟩ : BufTy).Contents (Elt F) → (⟨S16384x1, .i32⟩ : BufTy).Contents (Elt F) → (⟨S16384x1, .i1⟩ : BufTy).Contents (Elt F)),
    StableHlo.nullary main_c_2 (constantI S_ 32 16384#32),
    StableHlo.unary main_c_2 main_v12 (broadcastInDim S16384x1 ![] bcast_S_S16384x1 : (⟨S_, .i32⟩ : BufTy).Contents (Elt F) → (⟨S16384x1, .i32⟩ : BufTy).Contents (Elt F)),
    StableHlo.binary main_v1 main_v12 main_v13 (addi : (⟨S16384x1, .i32⟩ : BufTy).Contents (Elt F) → (⟨S16384x1, .i32⟩ : BufTy).Contents (Elt F) → (⟨S16384x1, .i32⟩ : BufTy).Contents (Elt F)),
    StableHlo.ternary main_v11 main_v13 main_v1 main_v14 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    StableHlo.nullary main_c_3 (constantI S_ 32 0#32),
    StableHlo.unary main_c_3 main_v15 (broadcastInDim S16384x200 ![] bcast_S_S16384x200 : (⟨S_, .i32⟩ : BufTy).Contents (Elt F) → (⟨S16384x200, .i32⟩ : BufTy).Contents (Elt F)),
    StableHlo.binary main_arg1 main_v15 main_v16 (cmpi .slt : (⟨S16384x200, .i32⟩ : BufTy).Contents (Elt F) → (⟨S16384x200, .i32⟩ : BufTy).Contents (Elt F) → (⟨S16384x200, .i1⟩ : BufTy).Contents (Elt F)),
    StableHlo.nullary main_c_4 (constantI S_ 32 1000#32),
    StableHlo.unary main_c_4 main_v17 (broadcastInDim S16384x200 ![] bcast_S_S16384x200 : (⟨S_, .i32⟩ : BufTy).Contents (Elt F) → (⟨S16384x200, .i32⟩ : BufTy).Contents (Elt F)),
    StableHlo.binary main_arg1 main_v17 main_v18 (addi : (⟨S16384x200, .i32⟩ : BufTy).Contents (Elt F) → (⟨S16384x200, .i32⟩ : BufTy).Contents (Elt F) → (⟨S16384x200, .i32⟩ : BufTy).Contents (Elt F)),
    StableHlo.ternary main_v16 main_v18 main_arg1 main_v19 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F)),
    StableHlo.unary main_v14 main_v20 (broadcastInDim S16384x200 ![0, 1] bcast_S16384x1_S16384x200_0_1 : (⟨S16384x1, .i32⟩ : BufTy).Contents (Elt F) → (⟨S16384x200, .i32⟩ : BufTy).Contents (Elt F)),
    StableHlo.unary main_v20 main_v21 (broadcastInDim S16384x200x1 ![0, 1] bcast_S16384x200_S16384x200x1_0_1 : (⟨S16384x200, .i32⟩ : BufTy).Contents (Elt F) → (⟨S16384x200x1, .i32⟩ : BufTy).Contents (Elt F)),
    StableHlo.unary main_v19 main_v22 (broadcastInDim S16384x200x1 ![0, 1] bcast_S16384x200_S16384x200x1_0_1 : (⟨S16384x200, .i32⟩ : BufTy).Contents (Elt F) → (⟨S16384x200x1, .i32⟩ : BufTy).Contents (Elt F)),
    StableHlo.binary main_v21 main_v22 main_v23 ((fun a b => concatenate S16384x200x2 2 [⟨S16384x200x1, a⟩, ⟨S16384x200x1, b⟩] concatenates_S16384x200x1_S16384x200x1_S16384x200x2_d2) : (⟨S16384x200x1, .i32⟩ : BufTy).Contents (Elt F) → (⟨S16384x200x1, .i32⟩ : BufTy).Contents (Elt F) → (⟨S16384x200x2, .i32⟩ : BufTy).Contents (Elt F)),
    StableHlo.ternary main_v9 main_v23 main_v5 main_v24 ((fun x i u => Host.scatter scatter_S16384x1000_S16384x200x2_S16384x200_n_01_01_2 (fun _ b => b) x i u) : (⟨S16384x1000, .f32⟩ : BufTy).Contents (Elt F) → (⟨S16384x200x2, .i32⟩ : BufTy).Contents (Elt F) → (⟨S16384x200, .f32⟩ : BufTy).Contents (Elt F) → (⟨S16384x1000, .f32⟩ : BufTy).Contents (Elt F)),
    StableHlo.reshape main_arg0 main_v25 (rfl : (.f32 : EltTy) = .f32) shapeCasts_S16384x1000_S16384000,
    StableHlo.reshape main_arg1 main_v26 (rfl : (.i32 : EltTy) = .i32) shapeCasts_S16384x200_S3276800,
    StableHlo.reshape main_arg2 main_v27 (rfl : (.f32 : EltTy) = .f32) shapeCasts_S16384x200_S3276800,
    StableHlo.reshape main_v24 main_v28 (rfl : (.f32 : EltTy) = .f32) shapeCasts_S16384x1000_S16384000]

/-- The host's one operation after the call: the result as a matrix. -/
def tail : HloOp τ sig (Elt F) := StableHlo.reshape main_v29 main_v30 (rfl : (.f32 : EltTy) = .f32) shapeCasts_S16384000_S16384x1000

/-- The program is the line, the call and the reshape. -/
theorem main_eq (d : Dev nD) :
    main (F := F) d = StableHlo.seq line >>= fun _ => (K (F := F)).run d 0 >>= fun _ => StableHlo.seq [tail] >>= fun _ => pure ⟨⟩ := rfl

/-- The line's operations are on the host's arrays. -/
theorem line_sub : ∀ op ∈ (line (F := F)), op.bufs ⊆ ucRefs τ sig := by
  have h : (line (F := F)).Forall fun op => op.bufs ⊆ StableHlo.tcRefs τ sig :=
    ⟨StableHlo.nullary_bufs_sub .., StableHlo.unary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.reshape_bufs_sub .., StableHlo.reshape_bufs_sub .., StableHlo.reshape_bufs_sub .., StableHlo.reshape_bufs_sub ..⟩
  exact fun op ho => sub_ucRefs op (List.forall_iff_forall_mem.mp h op ho)

/-- The line's operations leave nothing unchosen. -/
theorem line_fresh : ∀ op ∈ (line (F := F)), op.fresh = ∅ := by
  have h : (line (F := F)).Forall fun op => op.fresh = ∅ := by
    simp only [line, List.Forall]; repeat' constructor
  exact fun op ho => List.forall_iff_forall_mem.mp h op ho

theorem tail_sub : ∀ op ∈ [tail (F := F)], op.bufs ⊆ ucRefs τ sig := fun op ho => by
  rw [List.mem_singleton.mp ho]; exact sub_ucRefs _ (StableHlo.reshape_bufs_sub ..)

theorem tail_fresh : ∀ op ∈ [tail (F := F)], op.fresh = ∅ := fun op ho => by
  rw [List.mem_singleton.mp ho]; rfl

/-! ## The contents at each point -/

variable (X : Dev nD → Valuation τ sig (Elt F))

/-- The result of a call that finds the host's arrays at `X`. -/
def res (d : Dev nD) : Vec F S16384000 .f32 := out (X d rD) (X d rW) (X d rI) (X d rU)
/-- The host's arrays after that call. -/
def aft (d : Dev nD) : Valuation τ sig (Elt F) := Function.update (X d) rO (res X d)
/-- The host's arrays at the end. -/
def last (d : Dev nD) : Valuation τ sig (Elt F) := after [tail] (aft X d)

/-- The four operands of the call and its result. -/
abbrev five : Finset (DevRef τ sig) := {rD, rI, rU, rW, rO}

omit [FloatOps F] in
theorem mem_uc (r : Ref sig .tc) (h : ¬ (Proc.devRef (τ := τ) .tc r).isScoped) : Proc.devRef .tc r ∈ ucRefs τ sig :=
  Finset.mem_filter.mpr ⟨StableHlo.devRef_mem_tcRefs r, h⟩

omit [FloatOps F] in
theorem five_sub : five ⊆ ucRefs τ sig := by
  intro b hb
  simp only [Finset.mem_insert, Finset.mem_singleton] at hb
  rcases hb with rfl | rfl | rfl | rfl | rfl <;> exact mem_uc _ (by decide)

omit [FloatOps F] in
/-- The host's arrays held are the five of the call and the rest. -/
theorem held_five (d : Dev nD) (W : Valuation τ sig (Elt F)) :
    (held (d.tc : Thread nD τ) (ucRefs τ sig) W : sProp 𝕄)
      = iprop(((((d, rD) ↦{fullShare} W rD) ∗ ((d, rI) ↦{fullShare} W rI) ∗ ((d, rU) ↦{fullShare} W rU) ∗ ((d, rW) ↦{fullShare} W rW)) ∗ ((d, rO) ↦{fullShare} W rO))
        ∗ held (d.tc : Thread nD τ) (ucRefs τ sig \ five) W) := by
  rw [StableHlo.held_sub_split d.tc five_sub W]
  unfold held five
  rw [SparseCore.bigSep_insert' (by decide), SparseCore.bigSep_insert' (by decide), SparseCore.bigSep_insert' (by decide), SparseCore.bigSep_insert' (by decide), bigSep_singleton]
  congr 1
  have e : ∀ A B C : sProp 𝕄, iprop((A ∗ B) ∗ C) = iprop(A ∗ B ∗ C) := fun _ _ _ => equiv_iff.mp ⟨sep_assoc, sep_assoc'⟩
  simp only [e]

/-- After the call, the rest of the host's arrays are as they were and the operands too. -/
theorem held_after (d : Dev nD) :
    (held (d.tc : Thread nD τ) (ucRefs τ sig) (aft X d) : sProp 𝕄)
      = iprop(((((d, rD) ↦{fullShare} X d rD) ∗ ((d, rI) ↦{fullShare} X d rI) ∗ ((d, rU) ↦{fullShare} X d rU) ∗ ((d, rW) ↦{fullShare} X d rW)) ∗ ((d, rO) ↦{fullShare} res X d))
        ∗ held (d.tc : Thread nD τ) (ucRefs τ sig \ five) (X d)) := by
  rw [held_five, StableHlo.held_congr d.tc (S := ucRefs τ sig \ five) (V := aft X d) (V' := X d) fun b hb =>
    Function.update_of_ne (fun e => (Finset.mem_sdiff.mp hb).2 (by rw [e]; decide)) _ _]
  unfold aft
  rw [Function.update_self, Function.update_of_ne (show rD ≠ rO by decide), Function.update_of_ne (show rI ≠ rO by decide),
    Function.update_of_ne (show rU ≠ rO by decide), Function.update_of_ne (show rW ≠ rO by decide)]

end Cert.Proof.OnKernelIdeal

end
-- ==== Proof.KernelIdeal.Launch.lean ====
module

public import proofs.«01_k».proof.Proof.KernelIdeal.Deal

/-!
  The whole program's run: the host's straight line before the call, the call on the thirty-two tiles, the reshape after it.
-/

@[expose] public section

noncomputable section

namespace Cert.Proof.OnKernelIdeal

open Cert.KernelIdeal Cert.KernelIdeal.Gen

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.Pipeline (ucRefs unscopedBufs_held sub_ucRefs)
open Idealize.ShloMosaic.StableHlo (held after)
open Cert.Window

variable {F : FTy → Type}

local notation "𝕄" => MT nD τ sig (HIx 1) (Elt F) ℕ UU ℕ

/-- The launch protocol's semaphores are apart and unscoped, and no kernel's scratch is shared between tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (X : Dev nD → Valuation τ sig (Elt F))

/-! ## What the handshakes carry -/

/-- What one tile takes. -/
def goes (d : Dev nD) (c : Fin 2) (s : Fin 16) : sProp 𝕄 := dealt d (X d rD) (X d rW) (X d rI) (X d rU) (X d rO) c s
/-- What one tile brings back. -/
def comes (d : Dev nD) (c : Fin 2) (s : Fin 16) : sProp 𝕄 := dealt d (X d rD) (X d rW) (X d rI) (X d rU) (res X d) c s

theorem nCore_zero : (K (F := F)).nCore 0 = 2 := rfl
theorem nSub_zero : (K (F := F)).nSub 0 = 16 := rfl

theorem tiles_eq (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The call hands each SparseCore what its tiles take, and takes back what they bring. -/
def P : (K (F := F)).Pay (nD := nD) (Val := Elt F) (Name := ℕ) (U := UU) where
  st := fun q d c => match q with | 0 => bigSep Finset.univ fun s : Fin ((K (F := F)).nSub 0) => goes X d (Fin.cast nCore_zero c) (Fin.cast nSub_zero s)
  dn := fun q d c => match q with | 0 => bigSep Finset.univ fun s : Fin ((K (F := F)).nSub 0) => comes X d (Fin.cast nCore_zero c) (Fin.cast nSub_zero s)
  go := fun q d c s => match q with | 0 => goes X d (Fin.cast nCore_zero c) (Fin.cast nSub_zero s)
  td := fun q d c s => match q with | 0 => comes X d (Fin.cast nCore_zero c) (Fin.cast nSub_zero s)
  x := fun _ _ => iprop(emp)

instance goes_storable (d : Dev nD) (c : Fin 2) (s : Fin 16) : BI.Storable (upEmb : UEmb _ 𝕄) (goes X d c s) := by
  unfold goes dealt ins part; infer_instance
instance comes_storable (d : Dev nD) (c : Fin 2) (s : Fin 16) : BI.Storable (upEmb : UEmb _ 𝕄) (comes X d c s) := by
  unfold comes dealt ins part; infer_instance

theorem P_st (d : Dev nD) (c : Fin ((K (F := F)).nCore 0)) :
    (P X).st 0 d c = bigSep Finset.univ fun s : Fin ((K (F := F)).nSub 0) => goes X d (Fin.cast nCore_zero c) (Fin.cast nSub_zero s) := by dsimp only [P]
theorem P_dn (d : Dev nD) (c : Fin ((K (F := F)).nCore 0)) :
    (P X).dn 0 d c = bigSep Finset.univ fun s : Fin ((K (F := F)).nSub 0) => comes X d (Fin.cast nCore_zero c) (Fin.cast nSub_zero s) := by dsimp only [P]
theorem P_go (d : Dev nD) (c : Fin ((K (F := F)).nCore 0)) (s : Fin ((K (F := F)).nSub 0)) :
    (P X).go 0 d c s = goes X d (Fin.cast nCore_zero c) (Fin.cast nSub_zero s) := by dsimp only [P]
theorem P_td (d : Dev nD) (c : Fin ((K (F := F)).nCore 0)) (s : Fin ((K (F := F)).nSub 0)) :
    (P X).td 0 d c s = comes X d (Fin.cast nCore_zero c) (Fin.cast nSub_zero s) := by dsimp only [P]

instance P_storable : (P (F := F) X).IsStorable where
  st q d c := by obtain rfl : q = 0 := Subsingleton.elim q 0; rw [P_st]; infer_instance
  dn q d c := by obtain rfl : q = 0 := Subsingleton.elim q 0; rw [P_dn]; infer_instance
  go q d c s := by obtain rfl : q = 0 := Subsingleton.elim q 0; rw [P_go]; infer_instance
  td q d c s := by obtain rfl : q = 0 := Subsingleton.elim q 0; rw [P_td]; infer_instance

/-! ## The tiles' obligation -/

/-- A vector subcore's kernel is the tile's body at its coordinates. -/
theorem defs₀_vector (c : Fin τ.nSC) (s : Fin τ.nSub) :
    defs₀ (F := F) (.scVector c s) 0 ()
      = SparseCore.onTile hcore0 hsub0 (fun c s => cc0__apply_body (coords c s)
          (Memref.whole main_v25_scv) (Memref.isWhole_whole _) (Memref.whole main_v26_scv) (Memref.isWhole_whole _)
          (Memref.whole main_v27_scv) (Memref.isWhole_whole _) (Memref.whole main_v28_scv) (Memref.isWhole_whole _)
          (Memref.whole main_v29_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scoped0 cc0_scoped1 cc0_scoped2 cc0_scoped3 cc0_scoped4) ⟨⟩ c s := rfl

omit [FloatOps F] in
/-- A tile records no waits of the handshakes' own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile takes what it is dealt to what it brings back. -/
theorem tileObl (h : ∀ d i, (X d rI i : BitVec 32).toNat < 1000) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hci' : ((K (F := F)).core 0 c).val < (![2, 16] : Fin 2 → ℕ) 0 ∧ ((K (F := F)).sub 0 i).val < (![2, 16] : Fin 2 → ℕ) 1 := hci
  rw [defs₀_vector]; simp only [SparseCore.onTile, hci', and_self, ↓reduceDIte]
  exact (tile_body d (coords ⟨_, hci.1⟩ ⟨_, hci.2⟩) _ _ _ _ _ facts (h d) _ O W hO).trans (wp_mono frame _ _ fun _ => obl_post)

/-- A SparseCore's part of the call is its tiles'. -/
theorem vecSplit : (K (F := F)).VecSplit' (P X) 0 := by
  intro d c
  have hg : (fun s => (P X).go 0 d c s) = fun s => goes X d (Fin.cast nCore_zero c) (Fin.cast nSub_zero s) := funext (P_go X d c)
  have ht : (fun s => (P X).td 0 d c s) = fun s => comes X d (Fin.cast nCore_zero c) (Fin.cast nSub_zero s) := funext (P_td X d c)
  rw [P_st, P_dn, hg, ht]
  iintro H; imodintro
  isplitl [H]; · iexact H
  iintro H; iexact H

/-! ## The launch -/

omit [FloatOps F] in
theorem emps {I : Type} (s : Finset I) : (bigSep s fun _ => iprop(emp)) = (iprop(emp) : sProp 𝕄) := bigSep_emp_const s

/-- The start of the run's own accounts. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), emps]
  iempintro

/-- The call takes the operands and the result whole. -/
theorem st0_eq (d : Dev nD) : (bigSep Finset.univ fun c : Fin ((K (F := F)).nCore 0) => (P X).st 0 d c)
    = iprop((((d, rD) ↦{fullShare} X d rD) ∗ ((d, rI) ↦{fullShare} X d rI) ∗ ((d, rU) ↦{fullShare} X d rU) ∗ ((d, rW) ↦{fullShare} X d rW)) ∗ ((d, rO) ↦{fullShare} X d rO)) :=
  ((bigSep_congr fun c _ => (P_st X d c).trans <| tiles_eq fun s => goes X d (Fin.cast nCore_zero c) s).trans (cores_eq fun c => bigSep Finset.univ fun s : Fin 16 => goes X d c s)).trans (deal d (X d rD) (X d rW) (X d rI) (X d rU) (X d rO))
/-- The call brings them back, the result written. -/
theorem dn0_eq (d : Dev nD) : (bigSep Finset.univ fun c : Fin ((K (F := F)).nCore 0) => (P X).dn 0 d c)
    = iprop((((d, rD) ↦{fullShare} X d rD) ∗ ((d, rI) ↦{fullShare} X d rI) ∗ ((d, rU) ↦{fullShare} X d rU) ∗ ((d, rW) ↦{fullShare} X d rW)) ∗ ((d, rO) ↦{fullShare} res X d)) :=
  ((bigSep_congr fun c _ => (P_dn X d c).trans <| tiles_eq fun s => comes X d (Fin.cast nCore_zero c) s).trans (cores_eq fun c => bigSep Finset.univ fun s : Fin 16 => comes X d c s)).trans (deal d (X d rD) (X d rW) (X d rI) (X d rU) (res X d))

/-- What the host ends with: its arrays at their last contents. -/
abbrev FIN (d : Dev nD) : sProp 𝕄 := held (d.tc : Thread nD τ) (ucRefs τ sig) (last X d)

variable (m : (ℓ : Loc nD τ sig) → Buf (Elt F) ℓ) (ρ : Dev nD → PrngReg)

set_option backward.isDefEq.respectTransparency.types false in
/-- The host's program on a device: the line, the call, the reshape. -/
theorem hmain (hX : ∀ d, after line (fun b => m (d, b)) = X d) (κ : GSem nD τ sig → ℕ) (d : Dev nD) :
    iprop((K (F := F)).ctx EH (P X) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN X d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (ucRefs τ sig) (fun b => m (d, b)) from unscopedBufs_held d (fun b => m (d, b))]
  iintro ⟨#Hctx, Hst, ⟨Hb, Hheld, Hts, -⟩, -⟩
  iapply (StableHlo.wp_seq 𝒱 none Set.univ d (ucRefs τ sig) _ line line_sub line_fresh (fun b => m (d, b))) $$ [Hb Hheld]
  · isplitl [Hb] <;> iassumption
  rw [hX d]
  iintro ⟨Hb, Hheld⟩
  ihave H := (Entails.of_eq (held_five d (X d))) $$ Hheld
  icases H with ⟨Hops, Hrest⟩
  rw [wp_bind]
  iapply ((K (F := F)).wp_run (D (F := F)) 𝒱 (EH := EH) (P := P X) κ d 0) $$ [Hst Hops Hb Hrest Hts]
  isplitr; · iexact Hctx
  isplitl [Hst]; · iexact Hst
  isplitl [Hops]
  · rw [st0_eq]; iexact Hops
  iintro ⟨Hst, Hdn⟩
  ihave Hdn' := (Entails.of_eq (dn0_eq X d)) $$ Hdn
  ihave Hh := (Entails.of_eq (held_after X d).symm) $$ [Hdn' Hrest]
  · isplitl [Hdn'] <;> iassumption
  iapply (StableHlo.wp_seq 𝒱 none Set.univ d (ucRefs τ sig) _ [tail] tail_sub tail_fresh (aft X d)) $$ [Hb Hh]
  · isplitl [Hb] <;> iassumption
  iintro ⟨Hb, Hheld⟩
  rw [wp_pure]; imodintro
  isplitl [Hst]; · iexact Hst
  isplitl [Hheld]; · iexact Hheld
  isplitl [Hb] <;> iassumption

/-- The memory agrees with the host's arrays' last contents. -/
def fq (d : Dev nD) (s' : Phys nD τ sig (Elt F)) : Prop := ∀ b ∈ ucRefs τ sig, s'.mem.mem (d, b) = last X d b

theorem hfin (d : Dev nD) (s' : Phys nD τ sig (Elt F)) : iprop(FIN X d ∗ SI s') ⊢ (⌜fq X d s'⌝ : sProp 𝕄) := by
  have h : ∀ b ∈ ucRefs τ sig, iprop(FIN X d ∗ SI s') ⊢ (⌜s'.mem.mem (d, b) = last X d b⌝ : sProp 𝕄) := by
    intro b hb
    unfold FIN held
    rw [SparseCore.bigSep_erase' hb]
    iintro ⟨⟨Hx, -⟩, HSI⟩
    ihave H := (SI_pointsTo_agree (st := s') (ℓ := (d, b)) (I := Finset.univ) (q := fullShare) (f := last X d b)) $$ [HSI Hx]
    · isplitl [HSI] <;> iassumption
    icases H with %hx
    ipureintro; exact funext fun i => hx i (Finset.mem_univ i)
  exact fun a ha b hb => h b hb a ha

/-! ## The run -/

/-- The host's arrays at the call, from the contents at the start. -/
def call (d : Dev nD) : Valuation τ sig (Elt F) := after line fun b => m (d, b)

/-- What the run asks of the start: every index names a column. -/
def InRange : Prop := ∀ (d : Dev nD) (i : S16384x200.Idx), BitVec.toNat (m (d, Proc.devRef .tc main_arg1) i : BitVec 32) < 1000

set_option maxHeartbeats 4000000 in
/-- The columns at the call are the indices. -/
theorem call_cols (d : Dev nD) :
    call m d rI = shapeCast S3276800 (m (d, Proc.devRef .tc main_arg1) : IVec S16384x200 32) shapeCasts_S16384x200_S3276800 := by
  unfold call line
  after_results_simp
  rfl

/-- So they are in range. -/
theorem cols_lt (h : InRange m) (d : Dev nD) (i : S3276800.Idx) : BitVec.toNat (call m d rI i : BitVec 32) < 1000 := by
  rw [call_cols]
  exact h d _

/-- Every one of the host's arrays ends at its last contents, every semaphore at zero. -/
def QC : PUnit × MemSt nD τ sig (Elt F) → Prop := fun r => (∀ d : Dev nD, ∀ b ∈ ucRefs τ sig, r.2.mem (d, b) = last (call m) d b) ∧ r.2.sem = fun _ => 0

/-- From indices in range the program runs to its end, and leaves every one of the host's arrays at its last contents. -/
theorem run_main [∀ e, Nonempty (Elt F e)] (h : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (call m)) (A := ∅) facts v₀
    (fun q hq => match q with | 0 => nomatch hq)
    (fun q _ => match q with | 0 => tileObl (call m) (cols_lt m h))
    (fun q _ => match q with | 0 => SparseCore.Cfg.VecSplit.of_plain (vecSplit (call m)))
    m ρ main (fun _ => iprop(emp)) (FIN (call m)) (u₀ (F := F)) (sep_elim_left.trans (hu₀ (call m))) (hmain (call m) m ρ fun _ => rfl) (fq (call m))
    (hfin (call m)) (QC m) (fun _ h hz => ⟨h, hz⟩)

set_option maxHeartbeats 4000000 in
/-- The arguments end as they began. -/
theorem args_kept (d : Dev nD) :
    last (call m) d (Proc.devRef .tc main_arg0) = m (d, Proc.devRef .tc main_arg0)
      ∧ last (call m) d (Proc.devRef .tc main_arg1) = m (d, Proc.devRef .tc main_arg1)
      ∧ last (call m) d (Proc.devRef .tc main_arg2) = m (d, Proc.devRef .tc main_arg2) := by
  have h (r : Ref sig .tc) (h1 : last (call m) d (Proc.devRef .tc r) = aft (call m) d (Proc.devRef .tc r)) (h2 : (Proc.devRef .tc r : DevRef τ sig) ≠ rO)
      (h3 : call m d (Proc.devRef .tc r) = m (d, Proc.devRef .tc r)) : last (call m) d (Proc.devRef .tc r) = m (d, Proc.devRef .tc r) := by
    rw [h1, aft, Function.update_of_ne h2, h3]
  refine ⟨h _ ?_ (by decide) ?_, h _ ?_ (by decide) ?_, h _ ?_ (by decide) ?_⟩
  all_goals (first | (unfold last tail; after_results_simp; done) | (unfold call line; after_results_simp; done))

end Cert.Proof.OnKernelIdeal

end
-- ==== Proof.Winner.lean ====
/-
  A scatter that overwrites, read through the table of its winners.

  The reference sets, row by row, the elements the row's two hundred slots name, in the order of the slots. The kernel instead scatters
  the slots' own numbers over a table of -1, and then gives each element the update of the slot that number names. Both scatters take
  the same slots in the same order, so the slot that wins an element is the same in both: `winner`. `result_eq` says that the kernel's
  result is therefore the reference's, every float an extended real.
-/
module

public import Idealize.ShloMosaic.Lib.ScatterToDense.RefScatter
public import Idealize.ShloMosaic.Lib.Pipeline.Value
public import Idealize.ShloMosaic.Lib.IdealHost
public import proofs.«01_k».proof.Proof.Window

@[expose] public section

namespace Cert.Window

open Idealize.ShloMosaic Idealize.ShloMosaic.Routing
open Idealize.ShloMosaic.ScatterToDense (GS GS_zero GS_succ GS_succ_hit GS_succ_miss scatter_eq_GS)
open Idealize.ShloMosaic.ValueIdx (select_apply)

/-! ## The winner of an element -/

/-- Either no slot names the column, and every scatter over these words leaves its fill there; or one slot wins it, and every scatter
    over these words leaves that slot's value there. -/
theorem winner (word : ℕ → BitVec 32) (col n : ℕ) :
    (∀ (α : Type) (val : ℕ → α) (fill : α), GS word val fill col n = fill)
      ∨ ∃ k, k < n ∧ col = (word k).toNat ∧ ∀ (α : Type) (val : ℕ → α) (fill : α), GS word val fill col n = val k := by
  induction n with
  | zero => exact .inl fun _ _ _ => GS_zero
  | succ n ih =>
    by_cases h : col = (word n).toNat
    · exact .inr ⟨n, Nat.lt_succ_self n, h, fun _ _ _ => GS_succ_hit h⟩
    · rcases ih with ih | ⟨k, hk, hc, ih⟩
      · exact .inl fun α val fill => (GS_succ_miss h).trans (ih α val fill)
      · exact .inr ⟨k, Nat.lt_succ_of_lt hk, hc, fun α val fill => (GS_succ_miss h).trans (ih α val fill)⟩

/-! ## Words and floats -/

/-- The signed word nearest a natural below 2³¹, read off the real it is. -/
theorem fptosi_nat {k : ℕ} (hk : k < 2 ^ 31) : (FloatOps.fptosi (F := Ideal) (φ := .f32) 32 (((k : ℝ) : EReal) : Ideal .f32)).toNat = k := by
  show (BitVec.ofInt 32 (max (-(2 ^ (32 - 1) : ℕ)) (min ((2 ^ (32 - 1) : ℕ) - 1) (if (0 : ℝ) ≤ (k : ℝ) then ⌊(k : ℝ)⌋ else ⌈(k : ℝ)⌉)))).toNat = k
  rw [if_pos (Nat.cast_nonneg k), Int.floor_natCast]
  have e : max (-((2 ^ (32 - 1) : ℕ) : ℤ)) (min (((2 ^ (32 - 1) : ℕ) : ℤ) - 1) (k : ℤ)) = (k : ℤ) := by omega
  rw [e, BitVec.ofInt_natCast, BitVec.toNat_ofNat]
  omega

/-- The signed word nearest -1 is, unsigned, the largest. -/
theorem fptosi_neg_one : (FloatOps.fptosi (F := Ideal) (φ := .f32) 32 ((-1 : EReal) : Ideal .f32)).toNat = 4294967295 := by
  have h : (-1 : EReal) = ((-1 : ℝ) : EReal) := by norm_num
  rw [h]
  show (BitVec.ofInt 32 (max (-(2 ^ (32 - 1) : ℕ)) (min ((2 ^ (32 - 1) : ℕ) - 1) (if (0 : ℝ) ≤ (-1 : ℝ) then ⌊(-1 : ℝ)⌋ else ⌈(-1 : ℝ)⌉)))).toNat = _
  rw [if_neg (by norm_num), show ⌈(-1 : ℝ)⌉ = -1 by norm_num]
  decide

/-- The winners' table before the scatter: -1 whatever the data. -/
theorem start_at {s : Shape} (b : (⟨0, ![]⟩ : Shape).BroadcastsInDim s ![]) (D : FVec Ideal s .f32) (i : s.Idx) :
    subf (mulf D (broadcastInDim s ![] b (constant ⟨0, ![]⟩ .f32 0x00000000#32))) (broadcastInDim s ![] b (constant ⟨0, ![]⟩ .f32 0x3F800000#32)) i
      = (-1 : EReal) := by
  show D i * Ideal.ofBits .f32 0x00000000#32 - Ideal.ofBits .f32 0x3F800000#32 = (-1 : EReal)
  have h0 : Ideal.ofBits .f32 0x00000000#32 = 0 := by simp [Ideal.ofBits, Ideal.ieee]
  have h1 : Ideal.ofBits .f32 0x3F800000#32 = 1 := by simp [Ideal.ofBits, Ideal.ieee, -EReal.coe_mul]; norm_num
  rw [h0, h1, mul_zero, zero_sub]

/-- What the winners' table's scatter sets for a slot: its number in its row, whatever the updates. -/
theorem number_at (b : (⟨0, ![]⟩ : Shape).BroadcastsInDim (shape2 16384 200) ![]) (U : FVec Ideal (shape2 16384 200) .f32) (i : Fin 16384) (k : Fin 200) :
    addf (mulf U (broadcastInDim (shape2 16384 200) ![] b (constant ⟨0, ![]⟩ .f32 0x00000000#32))) (sitofp .f32 (iotaInDim (shape2 16384 200) 32 1)) (ValueIdx.ix2 i k)
      = ((k.val : ℝ) : EReal) := by
  show U (ValueIdx.ix2 i k) * Ideal.ofBits .f32 0x00000000#32 + (((BitVec.ofNat 32 k.val).toInt : ℝ) : EReal) = ((k.val : ℝ) : EReal)
  have h0 : Ideal.ofBits .f32 0x00000000#32 = 0 := by simp [Ideal.ofBits, Ideal.ieee]
  have h1 : (BitVec.ofNat 32 k.val).toInt = (k.val : ℤ) := WordCmp.toInt_ofNat_of_lt (by have := k.isLt; omega)
  rw [h0, h1, mul_zero, zero_add, Int.cast_natCast]

/-! ## The pairs of index words -/

section Pairs

variable (b1 : (⟨1, ![16384]⟩ : Shape).BroadcastsInDim (shape2 16384 1) ![0]) (b0 : (⟨0, ![]⟩ : Shape).BroadcastsInDim (shape2 16384 1) ![])
  (b0' : (⟨0, ![]⟩ : Shape).BroadcastsInDim (shape2 16384 200) ![]) (b2 : (shape2 16384 1).BroadcastsInDim (shape2 16384 200) ![0, 1])
  (b3 : (shape2 16384 200).BroadcastsInDim (shape3 16384 200 1) ![0, 1])
  (hc : Shape.Concatenates [shape3 16384 200 1, shape3 16384 200 1] (shape3 16384 200 2) 2) (I : IVec (shape2 16384 200) 32)

/-- The rows' numbers, a column, a negative one moved up by the number of rows. -/
def rowWords : IVec (shape2 16384 1) 32 :=
  select (cmpi .slt (broadcastInDim (shape2 16384 1) ![0] b1 (iotaInDim ⟨1, ![16384]⟩ 32 0)) (broadcastInDim (shape2 16384 1) ![] b0 (constantI ⟨0, ![]⟩ 32 0#32)))
    (addi (broadcastInDim (shape2 16384 1) ![0] b1 (iotaInDim ⟨1, ![16384]⟩ 32 0)) (broadcastInDim (shape2 16384 1) ![] b0 (constantI ⟨0, ![]⟩ 32 16384#32)))
    (broadcastInDim (shape2 16384 1) ![0] b1 (iotaInDim ⟨1, ![16384]⟩ 32 0))

/-- The indices, a negative one moved up by the number of columns. -/
def colWords : IVec (shape2 16384 200) 32 :=
  select (cmpi .slt I (broadcastInDim (shape2 16384 200) ![] b0' (constantI ⟨0, ![]⟩ 32 0#32)))
    (addi I (broadcastInDim (shape2 16384 200) ![] b0' (constantI ⟨0, ![]⟩ 32 1000#32))) I

/-- For each slot the pair of its row and its column. -/
def pairs : IVec (shape3 16384 200 2) 32 :=
  concatenate (shape3 16384 200 2) 2
    [⟨shape3 16384 200 1, broadcastInDim (shape3 16384 200 1) ![0, 1] b3 (broadcastInDim (shape2 16384 200) ![0, 1] b2 (rowWords b1 b0))⟩,
      ⟨shape3 16384 200 1, broadcastInDim (shape3 16384 200 1) ![0, 1] b3 (colWords b0' I)⟩] hc

/-- A row's number is not negative, so it stays. -/
theorem rowWords_at (i : Fin 16384) (z : Fin 1) : rowWords b1 b0 (ValueIdx.ix2 i z) = BitVec.ofNat 32 i.val := by
  have e : broadcastInDim (shape2 16384 1) ![0] b1 (iotaInDim ⟨1, ![16384]⟩ 32 0) (ValueIdx.ix2 i z) = BitVec.ofNat 32 i.val :=
    broadcastInDim_apply ![0] b1 (iotaInDim ⟨1, ![16384]⟩ 32 0) (ValueIdx.ix2 i z) (ValueIdx.ix1 i) fun a => by
      match a with | ⟨0, _⟩ => rfl
  unfold rowWords
  rw [select_apply]
  show Scalar.select (IntOp.cmpi .slt (broadcastInDim (shape2 16384 1) ![0] b1 (iotaInDim ⟨1, ![16384]⟩ 32 0) (ValueIdx.ix2 i z)) 0#32) _
    (broadcastInDim (shape2 16384 1) ![0] b1 (iotaInDim ⟨1, ![16384]⟩ 32 0) (ValueIdx.ix2 i z)) = _
  rw [e]
  exact wrap_of_lt _ _ (by rw [BitVec.toNat_ofNat]; have := i.isLt; omega)

/-- An index in range is not negative, so it stays. -/
theorem colWords_at (h : ∀ i, (I i).toNat < 1000) (i : (shape2 16384 200).Idx) : colWords b0' I i = I i := by
  unfold colWords
  rw [select_apply]
  exact wrap_of_lt _ _ (by have := h i; omega)

/-- The first word of a slot's pair is its row. -/
theorem pairs_row (i : Fin 16384) (k : Fin 200) : pairs b1 b0 b0' b2 b3 hc I (ValueIdx.ix3 i k 0) = BitVec.ofNat 32 i.val := by
  unfold pairs
  rw [concatenate_pair_apply_left 2 _ _ hc (ValueIdx.ix3 i k 0) rfl (ValueIdx.ix3 i k (0 : Fin 1)) (fun b => by match b with | ⟨0, _⟩ => rfl | ⟨1, _⟩ => rfl | ⟨2, _⟩ => rfl),
    broadcastInDim_apply ![0, 1] b3 _ (ValueIdx.ix3 i k (0 : Fin 1)) (ValueIdx.ix2 i k) (fun a => by match a with | ⟨0, _⟩ => rfl | ⟨1, _⟩ => rfl),
    broadcastInDim_apply ![0, 1] b2 _ (ValueIdx.ix2 i k) (ValueIdx.ix2 i (0 : Fin 1)) (fun a => by match a with | ⟨0, _⟩ => rfl | ⟨1, _⟩ => rfl)]
  exact rowWords_at b1 b0 i 0

/-- The second is its column. -/
theorem pairs_col (h : ∀ i, (I i).toNat < 1000) (i : Fin 16384) (k : Fin 200) : pairs b1 b0 b0' b2 b3 hc I (ValueIdx.ix3 i k 1) = I (ValueIdx.ix2 i k) := by
  unfold pairs
  rw [concatenate_pair_apply_right 2 _ _ hc (ValueIdx.ix3 i k 1) rfl rfl (ValueIdx.ix3 i k (0 : Fin 1))
      (fun b hb => by match b with | ⟨0, _⟩ => rfl | ⟨1, _⟩ => rfl | ⟨2, _⟩ => exact absurd rfl hb) rfl,
    broadcastInDim_apply ![0, 1] b3 _ (ValueIdx.ix3 i k (0 : Fin 1)) (ValueIdx.ix2 i k) (fun a => by match a with | ⟨0, _⟩ => rfl | ⟨1, _⟩ => rfl)]
  exact colWords_at b0' I h _

end Pairs

/-! ## The kernel's result is the reference's -/

/-- A matrix laid out flat, read at an element's number. -/
theorem rd_flat {R C n : ℕ} [NeZero n] {α : Type} (x : (shape2 R C).Idx → α) (h : (shape2 R C).ShapeCasts (⟨1, ![n]⟩ : Shape)) (i : Fin R) (j : Fin C)
    (hn : i.val * C + j.val < n) : rd (shapeCast (⟨1, ![n]⟩ : Shape) x h) (i.val * C + j.val) = x (ValueIdx.ix2 i j) := by
  unfold rd
  refine shapeCast_apply x h _ (ValueIdx.ix2 i j) ?_
  rw [Shape.rowMajor_val_two, Shape.rowMajor_val_one]
  exact (Nat.mod_eq_of_lt hn).symm

/-- An element of row `r` and column `j`, its data and its winner's number known. -/
theorem cell_at {α : Type} {D : ℕ → α} {W I : ℕ → ℕ} {U : ℕ → α} {n r j w : ℕ} {x : α} (hj : j < 1000) (hD : D (r * 1000 + j) = x)
    (hW : W (r * 1000 + j) = w) :
    cell D W I U n (r * 1000 + j) = if w < 200 ∧ I (r * 200 + w) = j ∧ r * 200 + w < n then U (r * 200 + w) else x := by
  have q1 : (r * 1000 + j) / 1000 = r := by omega
  have q2 : (r * 1000 + j) % 1000 = j := by omega
  unfold cell
  rw [hD, hW, q1, q2]

/-- The data overwritten through the winners' table is the data overwritten by the scatter: with indices in range, the same pairs of
    index words for both scatters, -1 under the one that makes the table and each slot's number as its value. -/
theorem result_eq (D : FVec Ideal (shape2 16384 1000) .f32) (I : IVec (shape2 16384 200) 32) (U : FVec Ideal (shape2 16384 200) .f32)
    (hI : ∀ i, (I i).toNat < 1000)
    (d d' : ScatterDims (shape2 16384 1000) (shape3 16384 200 2) (shape2 16384 200))
    (h1 : d.insertedWindowDims = [0, 1]) (h2 : d.scatterDimsToOperandDims = [0, 1]) (h3 : d.indexVectorDim = 2)
    (h1' : d'.insertedWindowDims = [0, 1]) (h2' : d'.scatterDimsToOperandDims = [0, 1]) (h3' : d'.indexVectorDim = 2)
    (x0 : FVec Ideal (shape2 16384 1000) .f32) (v : FVec Ideal (shape2 16384 200) .f32) (Q : IVec (shape3 16384 200 2) 32)
    (hx0 : ∀ i, x0 i = (-1 : EReal)) (hv : ∀ i k, v (ValueIdx.ix2 i k) = ((k.val : ℝ) : EReal))
    (hrow : ∀ i k, Q (ValueIdx.ix3 i k 0) = BitVec.ofNat 32 i.val) (hcol : ∀ i k, Q (ValueIdx.ix3 i k 1) = I (ValueIdx.ix2 i k))
    (c : (shape2 16384 1000).ShapeCasts (⟨1, ![16384000]⟩ : Shape)) (c' : (shape2 16384 200).ShapeCasts (⟨1, ![3276800]⟩ : Shape))
    (c'' : (⟨1, ![16384000]⟩ : Shape).ShapeCasts (shape2 16384 1000)) :
    shapeCast (shape2 16384 1000)
        (out (F := Ideal) (shapeCast (⟨1, ![16384000]⟩ : Shape) D c) (shapeCast (⟨1, ![16384000]⟩ : Shape) (Host.scatter d (fun _ b => b) x0 Q v) c)
          (shapeCast (⟨1, ![3276800]⟩ : Shape) I c') (shapeCast (⟨1, ![3276800]⟩ : Shape) U c')) c''
      = Host.scatter d' (fun _ b => b) D Q U := by
  funext p
  obtain ⟨r, j, rfl⟩ : ∃ (r : Fin 16384) (j : Fin 1000), p = ValueIdx.ix2 r j := ⟨p 0, p 1, ValueIdx.eq_ix2 p⟩
  have hr := r.isLt
  have hj := j.isLt
  have word (i : Fin 16384) (k : Fin 200) : Q (ValueIdx.ix3 i k 1) = (fun n => if h : n < 200 then I (ValueIdx.ix2 i ⟨n, h⟩) else 0#32) k.val := by
    dsimp only
    rw [dif_pos k.isLt]; exact hcol i k
  have eW := scatter_eq_GS d h1 h2 h3 (by decide) (by decide) x0 Q v (fun i n => if h : n < 200 then I (ValueIdx.ix2 i ⟨n, h⟩) else 0#32)
    (fun _ n => ((n : ℝ) : EReal)) hrow word hv r j
  have eD := scatter_eq_GS d' h1' h2' h3' (by decide) (by decide) D Q U (fun i n => if h : n < 200 then I (ValueIdx.ix2 i ⟨n, h⟩) else 0#32)
    (fun i n => if h : n < 200 then U (ValueIdx.ix2 i ⟨n, h⟩) else 0) hrow word (fun i k => by rw [dif_pos k.isLt]) r j
  have hl : (ValueIdx.ix1 (⟨r.val * 1000 + j.val, by omega⟩ : Fin 16384000) : (⟨1, ![16384000]⟩ : Shape).Idx) 0 = (⟨r.val * 1000 + j.val, by omega⟩ : Fin 16384000) := rfl
  rw [shapeCast_apply _ c'' (ValueIdx.ix2 r j) (ValueIdx.ix1 (⟨r.val * 1000 + j.val, by omega⟩ : Fin 16384000)) (by
    rw [Shape.rowMajor_val_one, Shape.rowMajor_val_two]; rfl), eD]
  have fD := rd_flat (n := 16384000) D c r j (by omega)
  have fW := (rd_flat (n := 16384000) (Host.scatter d (fun _ b => b) x0 Q v) c r j (by omega)).trans eW
  have e := cell_at (D := rd (shapeCast (⟨1, ![16384000]⟩ : Shape) D c))
    (W := fun l => (FloatOps.fptosi (F := Ideal) (φ := .f32) 32 (rd (shapeCast (⟨1, ![16384000]⟩ : Shape) (Host.scatter d (fun _ b => b) x0 Q v) c) l)).toNat)
    (I := fun k => (rd (shapeCast (⟨1, ![3276800]⟩ : Shape) I c') k).toNat) (U := rd (shapeCast (⟨1, ![3276800]⟩ : Shape) U c')) (n := 3276800)
    hj fD (congrArg (fun x => (FloatOps.fptosi (F := Ideal) (φ := .f32) 32 x).toNat) fW)
  refine Eq.trans (b := cell _ _ _ _ 3276800 (r.val * 1000 + j.val)) rfl (e.trans ?_)
  rcases winner (fun n => if h : n < 200 then I (ValueIdx.ix2 r ⟨n, h⟩) else 0#32) j.val 200 with h | ⟨k, hk, hc, h⟩
  · rw [h, h, hx0, fptosi_neg_one, if_neg fun q => absurd q.1 (by decide)]
  · have hk' : r.val * 200 + k < 3276800 := by omega
    have fI := congrArg BitVec.toNat (rd_flat (n := 3276800) I c' r ⟨k, hk⟩ hk')
    have fU := rd_flat (n := 3276800) U c' r ⟨k, hk⟩ hk'
    rw [dif_pos hk] at hc
    rw [h, h, fptosi_nat (by omega), dif_pos hk, if_pos ⟨hk, fI.trans hc.symm, hk'⟩]
    exact fU

end Cert.Window
-- ==== Proof.KernelIdeal.Value.lean ====
module

public import proofs.«01_k».proof.Proof.KernelIdeal.Launch
public import proofs.«01_k».proof.Proof.Winner

/-!
  The program's result, every float an extended real: it is the data overwritten by the scatter.
-/

@[expose] public section

noncomputable section

namespace Cert.Proof.OnKernelIdeal

open Cert.KernelIdeal Cert.KernelIdeal.Gen Cert.Window

open Idealize.ShloMosaic
open Idealize.ShloMosaic.StableHlo (after)

/-! ## The operands at the call -/

section Operands

variable {F : FTy → Type} [FloatOps F] (m : (ℓ : Loc nD τ sig) → Buf (Elt F) ℓ) (d : Dev nD)

/-- The data, indices and updates the program is given on a device. -/
abbrev dataOf : FVec F S16384x1000 .f32 := m (d, Proc.devRef .tc main_arg0)
/-- The indices. -/
abbrev idxOf : IVec S16384x200 32 := m (d, Proc.devRef .tc main_arg1)
/-- The updates. -/
abbrev updOf : FVec F S16384x200 .f32 := m (d, Proc.devRef .tc main_arg2)

/-- The pairs of index words the program's scatter takes. -/
abbrev pairsOf : IVec S16384x200x2 32 :=
  pairs bcast_S16384_S16384x1_0 bcast_S_S16384x1 bcast_S_S16384x200 bcast_S16384x1_S16384x200_0_1 bcast_S16384x200_S16384x200x1_0_1
    concatenates_S16384x200x1_S16384x200x1_S16384x200x2_d2 (idxOf m d)

/-- The winners' table: its scatter of the slots' numbers over -1. -/
def table : FVec F S16384x1000 .f32 :=
  Host.scatter scatter_S16384x1000_S16384x200x2_S16384x200_n_01_01_2 (fun _ b => b)
    (subf (mulf (dataOf m d) (broadcastInDim S16384x1000 ![] bcast_S_S16384x1000 (constant S_ .f32 0x00000000#32)))
      (broadcastInDim S16384x1000 ![] bcast_S_S16384x1000 (constant S_ .f32 0x3F800000#32)))
    (pairsOf m d)
    (addf (mulf (updOf m d) (broadcastInDim S16384x200 ![] bcast_S_S16384x200 (constant S_ .f32 0x00000000#32))) (sitofp .f32 (iotaInDim S16384x200 32 1)))

set_option maxHeartbeats 4000000 in
/-- The data at the call, flat. -/
theorem call_data : call m d rD = shapeCast S16384000 (dataOf m d) shapeCasts_S16384x1000_S16384000 := by
  unfold call line
  after_results_simp
  rfl

set_option maxHeartbeats 4000000 in
/-- The updates at the call, flat. -/
theorem call_upds : call m d rU = shapeCast S3276800 (updOf m d) shapeCasts_S16384x200_S3276800 := by
  unfold call line
  after_results_simp
  rfl

set_option maxHeartbeats 4000000 in
/-- The winners' table at the call, flat. -/
theorem call_table : call m d rW = shapeCast S16384000 (table m d) shapeCasts_S16384x1000_S16384000 := by
  unfold call line
  after_results_simp
  rfl

/-- The program's result is the call's, as a matrix. -/
theorem last_result : last (call m) d (Proc.devRef .tc main_v30) = shapeCast S16384x1000 (res (call m) d) shapeCasts_S16384000_S16384x1000 := by
  have e : aft (call m) d rO = res (call m) d := by unfold aft; exact Function.update_self ..
  have h : last (call m) d (Proc.devRef .tc main_v30) = shapeCast S16384x1000 (aft (call m) d rO) shapeCasts_S16384000_S16384x1000 := by
    unfold last tail
    after_results_simp
    rfl
  rw [h, e]

end Operands

/-! ## The result -/

/-- From indices in range, every float an extended real, the program's result is the data with, at each slot's row and index, the slot's
    update, a later slot over an earlier. -/
theorem last_eq (m : (ℓ : Loc nD τ sig) → Buf (Elt Ideal) ℓ) (h : InRange m) (d : Dev nD) (s : ScatterDims S16384x1000 S16384x200x2 S16384x200)
    (h1 : s.insertedWindowDims = [0, 1]) (h2 : s.scatterDimsToOperandDims = [0, 1]) (h3 : s.indexVectorDim = 2) :
    last (call m) d (Proc.devRef .tc main_v30) = Host.scatter s (fun _ b => b) (dataOf m d) (pairsOf m d) (updOf m d) := by
  rw [last_result, res, call_data, call_cols, call_upds, call_table, table]
  exact result_eq (dataOf m d) (idxOf m d) (updOf m d) (h d) _ s rfl rfl rfl h1 h2 h3 _ _ (pairsOf m d)
    (start_at bcast_S_S16384x1000 (dataOf m d)) (number_at bcast_S_S16384x200 (updOf m d))
    (pairs_row _ _ _ _ _ _ (idxOf m d)) (pairs_col _ _ _ _ _ _ (idxOf m d) (h d)) _ _ _

end Cert.Proof.OnKernelIdeal

end
-- ==== Proof.lean ====
/-
  The kernel's certificate. The program's run, at any float instance, is Proof/Kernel (read at the bits) and Proof/KernelIdeal (the same
  text, read at the extended reals): the thirty-two tiles' body once, at a symbolic tile (Tile), the arrays dealt to the tiles and put back
  (Deal), the launch between the host's two stretches (Launch). Proof/Window is the body's arithmetic, Proof/Winner the equation between
  the kernel's winners' table and the reference's scatter, Proof/KernelIdeal/Value the two joined, Proof/InRange the precondition.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.InRange
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel at the bits runs, keeps its arguments and leaves every semaphore at zero. -/
theorem frame_kernel : Cert.quiescent_Kernel (hKernel := Cert.Kernel.Gen.facts) (hPre_in_range := Cert.Pre_in_range.Gen.facts) := by
  intro m g hp
  have hr : OnKernel.InRange m := fun d i => InRange.lt_of_pre _ _ _ (hp d) i
  exact (θ_run Cert.Kernel.defs _ _).mono
    (fun r h => ⟨fun c => ⟨(h.1 c _ (OnKernel.mem_uc Cert.Kernel.main_arg0 (by decide))).trans (OnKernel.args_kept m c).1,
      (h.1 c _ (OnKernel.mem_uc Cert.Kernel.main_arg1 (by decide))).trans (OnKernel.args_kept m c).2.1,
      (h.1 c _ (OnKernel.mem_uc Cert.Kernel.main_arg2 (by decide))).trans (OnKernel.args_kept m c).2.2⟩, h.2⟩)
    (OnKernel.run_main m g hr)

/-- The precondition at the extended reals gives indices in range. -/
theorem inRange_ideal {m : (ℓ : Loc Cert.KernelIdeal.nD Cert.KernelIdeal.τ Cert.KernelIdeal.sig) → Buf (Elt Ideal) ℓ}
    (hp : Cert.Pre_KernelIdeal (hPre_in_range := Cert.Pre_in_range.Gen.facts) m) : OnKernelIdeal.InRange m :=
  fun d i => InRange.lt_of_pre _ _ _ (hp d) i

/-- The kernel at the extended reals runs, leaves its result at its last contents, keeps its arguments and leaves every semaphore at zero. -/
theorem run_ideal (m : (ℓ : Loc Cert.KernelIdeal.nD Cert.KernelIdeal.τ Cert.KernelIdeal.sig) → Buf (Elt Ideal) ℓ)
    (g : Dev Cert.KernelIdeal.nD → PrngReg) (hr : OnKernelIdeal.InRange m) :
    θ_run (Cert.KernelIdeal.defs (F := Ideal)) (Cert.KernelIdeal.threads (F := Ideal)) ⟨m, fun _ => 0, g⟩ (fun r =>
      (∀ c : Dev Cert.KernelIdeal.nD,
        r.2.mem ((c.tc : Thread Cert.KernelIdeal.nD Cert.KernelIdeal.τ).loc Cert.KernelIdeal.main_v30)
            = OnKernelIdeal.last (OnKernelIdeal.call m) c (Proc.devRef .tc Cert.KernelIdeal.main_v30)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono
    (fun r h => ⟨fun c => ⟨h.1 c _ (OnKernelIdeal.mem_uc Cert.KernelIdeal.main_v30 (by decide)),
      (h.1 c _ (OnKernelIdeal.mem_uc Cert.KernelIdeal.main_arg0 (by decide))).trans (OnKernelIdeal.args_kept m c).1,
      (h.1 c _ (OnKernelIdeal.mem_uc Cert.KernelIdeal.main_arg1 (by decide))).trans (OnKernelIdeal.args_kept m c).2.1,
      (h.1 c _ (OnKernelIdeal.mem_uc Cert.KernelIdeal.main_arg2 (by decide))).trans (OnKernelIdeal.args_kept m c).2.2⟩, h.2⟩)
    (OnKernelIdeal.run_main m g hr)

/-- The kernel at the extended reals runs, keeps its arguments and leaves every semaphore at zero. -/
theorem frame_ideal : Cert.quiescent_KernelIdeal (hKernelIdeal := Cert.KernelIdeal.Gen.facts) (hPre_in_range := Cert.Pre_in_range.Gen.facts) :=
  fun m g hp => (θ_run Cert.KernelIdeal.defs _ _).mono (fun _ h => ⟨fun c => (h.1 c).2, h.2⟩) (run_ideal m g (inRange_ideal hp))

/-- The reference runs and keeps its arguments, whatever they are; it declares no semaphore. -/
theorem frame_reference : Cert.quiescent_ReferenceIdeal (hReferenceIdeal := Cert.ReferenceIdeal.Gen.facts) :=
  fun m g _ => (θ_run Cert.ReferenceIdeal.defs _ _).mono (fun r h => ⟨fun c => (h c).2, sem_eq_zero_of_no_sems (by decide) r.2⟩)
    (Cert.ReferenceIdeal.Value.run (F := Ideal) m g)

/-- So it does where the indices are in range. -/
theorem frame_reference_inRange : Cert.quiescent_ReferenceIdeal_pre_in_range (hReferenceIdeal := Cert.ReferenceIdeal.Gen.facts)
    (hPre_in_range := Cert.Pre_in_range.Gen.facts) := fun m g _ => frame_reference m g trivial

/-- From the same arguments, indices in range, the kernel and the reference end with equal results. -/
theorem results_equal : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hp ha
  have hr := inRange_ideal hp
  refine ⟨fun c => OnKernelIdeal.last (OnKernelIdeal.call m) c (Proc.devRef .tc Cert.KernelIdeal.main_v30),
    (θ_run Cert.KernelIdeal.defs _ _).mono (fun _ h => h.1) (run_ideal m g hr), ?_⟩
  refine (θ_run Cert.ReferenceIdeal.defs _ _).mono (fun r h c => ⟨(h c).1.trans ?_, (h c).2⟩) (Cert.ReferenceIdeal.Value.run (F := Ideal) m' g')
  refine Eq.trans ?_ (OnKernelIdeal.last_eq m hr c Cert.ReferenceIdeal.scatter_S16384x1000_S16384x200x2_S16384x200_n_01_01_2 rfl rfl rfl).symm
  obtain ⟨h0, h1, h2⟩ := ha c
  rw [h0, h1, h2]
  rfl

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_inRange, trivial, results_equal⟩

end Cert.Proof

end
